-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "underflow" .f32 0x43160000#32 ⊤

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_v24) = v3 c
          ∧ r.2.mem ((c.tc : Thread Cert.Reference2Ideal.nD Cert.Reference2Ideal.τ).loc Cert.Reference2Ideal.main_v25) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_v73) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S8x2048x512 : Shape := ⟨3, ![8, 2048, 512]⟩
abbrev S16x512 : Shape := ⟨2, ![16, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S8x2048x512 .f32) (main_arg1 : FVec F S8x2048x512 .f32) (main_arg2 : FVec F S8x2048x512 .f32) (main_arg3 : FVec F S16x512 .f32) (main_arg4 : FVec F S16x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S16x512 .f32 := Host.absf main_arg3
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  main_v13
-- ==== Kernel.lean ====
abbrev S8x2048x512 : Shape := ⟨3, ![8, 2048, 512]⟩
abbrev S16x512 : Shape := ⟨2, ![16, 512]⟩
abbrev S16384x512 : Shape := ⟨2, ![16384, 512]⟩
abbrev S_ : Shape := ⟨0, ![]⟩
abbrev S1x256x512 : Shape := ⟨3, ![1, 256, 512]⟩
abbrev S1x2048x512 : Shape := ⟨3, ![1, 2048, 512]⟩
abbrev S1x128 : Shape := ⟨2, ![1, 128]⟩
abbrev S1x256x128 : Shape := ⟨3, ![1, 256, 128]⟩
abbrev S256x128 : Shape := ⟨2, ![256, 128]⟩
abbrev S256x256 : Shape := ⟨2, ![256, 256]⟩
abbrev S16x16 : Shape := ⟨2, ![16, 16]⟩
abbrev S256x1 : Shape := ⟨2, ![256, 1]⟩
abbrev S256x512 : Shape := ⟨2, ![256, 512]⟩
abbrev S1x256x1 : Shape := ⟨3, ![1, 256, 1]⟩
abbrev S1 : Shape := ⟨1, ![1]⟩
abbrev S1x1x1 : Shape := ⟨3, ![1, 1, 1]⟩
abbrev S16x128 : Shape := ⟨2, ![16, 128]⟩
abbrev S16x256 : Shape := ⟨2, ![16, 256]⟩

abbrev nBuf : Space → Nat
  | .hbm => 20
  | .vmem => 10
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S16x512, .f32⟩
  | .hbm, ⟨4, _⟩ => ⟨S16x512, .f32⟩
  | .hbm, ⟨5, _⟩ => ⟨S16384x512, .f32⟩
  | .hbm, ⟨6, _⟩ => ⟨S_, .f32⟩
  | .hbm, ⟨7, _⟩ => ⟨S16384x512, .f32⟩
  | .hbm, ⟨8, _⟩ => ⟨S16384x512, .f32⟩
  | .hbm, ⟨9, _⟩ => ⟨S16384x512, .bf16⟩
  | .hbm, ⟨10, _⟩ => ⟨S16384x512, .f32⟩
  | .hbm, ⟨11, _⟩ => ⟨S16384x512, .bf16⟩
  | .hbm, ⟨12, _⟩ => ⟨S16384x512, .f32⟩
  | .hbm, ⟨13, _⟩ => ⟨S16384x512, .bf16⟩
  | .hbm, ⟨14, _⟩ => ⟨S16x512, .bf16⟩
  | .hbm, ⟨15, _⟩ => ⟨S16x512, .bf16⟩
  | .hbm, ⟨16, _⟩ => ⟨S8x2048x512, .bf16⟩
  | .hbm, ⟨17, _⟩ => ⟨S8x2048x512, .bf16⟩
  | .hbm, ⟨18, _⟩ => ⟨S8x2048x512, .bf16⟩
  | .hbm, ⟨19, _⟩ => ⟨S8x2048x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S16x512, .bf16⟩
  | .local _ .vmem, ⟨7, _⟩ => ⟨S16x512, .bf16⟩
  | .local _ .vmem, ⟨8, _⟩ => ⟨S1x256x512, .bf16⟩
  | .local _ .vmem, ⟨9, _⟩ => ⟨S1x256x512, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 8], ![false, false, false]⟩

def k0_mult1 (i : grid0.Coords) : BitVec 32 :=
  let arg2 : BitVec 32 := BitVec.ofNat 32 (i 2).val
  let c256_i32 : BitVec 32 := 256#32
  let v72 : BitVec 32 := Scalar.muli arg2 c256_i32
  v72
def k0_off1 (i : grid0.Coords) : Fin 3 → Nat :=
  let c0_37 : Index := 0#32
  let arg2 : BitVec 32 := BitVec.ofNat 32 (i 2).val
  let c256_i32 : BitVec 32 := 256#32
  let v72 : BitVec 32 := Scalar.muli arg2 c256_i32
  let v73 : BitVec 32 := v72
  let v74 : Index := Scalar.indexCast v73
  let c0_38 : Index := 0#32
  ![0, v74.toNat, 0]
def k0_mult2 (i : grid0.Coords) (arg9 : BitVec 32) : BitVec 32 :=
  let arg2 : BitVec 32 := BitVec.ofNat 32 (i 2).val
  let v362 : BitVec 32 := Scalar.subi arg2 arg9
  let c256_i32_117 : BitVec 32 := 256#32
  let v363 : BitVec 32 := Scalar.muli v362 c256_i32_117
  v363

def k0_off2 (i : grid0.Coords) (arg9 : BitVec 32) : Fin 3 → Nat :=
  let c0_118 : Index := 0#32
  let arg2 : BitVec 32 := BitVec.ofNat 32 (i 2).val
  let v362 : BitVec 32 := Scalar.subi arg2 arg9
  let c256_i32_117 : BitVec 32 := 256#32
  let v363 : BitVec 32 := Scalar.muli v362 c256_i32_117
  let v364 : BitVec 32 := v363
  let v365 : Index := Scalar.indexCast v364
  let c0_119 : Index := 0#32
  ![0, v365.toNat, 0]

def k0_chk1 (i : grid0.Coords) (arg9 : BitVec 32) : Prop :=
  (256 ∣ (k0_mult2 i arg9).toNat) ∧
  (∀ a, (k0_off2 i arg9) a + S1x256x512.size a ≤ S1x2048x512.size a)
theorem k0_mult2_dvd : ∀ (i : grid0.Coords) (arg9 : BitVec 32) (k0_hw1 : k0_chk1 i arg9), 256 ∣ (k0_mult2 i arg9).toNat := fun i arg9 k0_hw1 => k0_hw1.1
theorem k0_off2_inb : ∀ (i : grid0.Coords) (arg9 : BitVec 32) (k0_hw1 : k0_chk1 i arg9), ∀ a, (k0_off2 i arg9) a + S1x256x512.size a ≤ S1x2048x512.size a := fun i arg9 k0_hw1 => k0_hw1.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S16x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S16x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "neg_log2e" => some ((-((Real.log 2)⁻¹) : ℝ) : EReal)
  | "underflow" => some ⊤
  | _ => none
-- ==== ReferenceIdeal.lean ====
abbrev S8x2048x512 : Shape := ⟨3, ![8, 2048, 512]⟩
abbrev S16x512 : Shape := ⟨2, ![16, 512]⟩
abbrev S1x16x512 : Shape := ⟨3, ![1, 16, 512]⟩
abbrev S8x16x512 : Shape := ⟨3, ![8, 16, 512]⟩
abbrev S8x2064x512 : Shape := ⟨3, ![8, 2064, 512]⟩
abbrev S8x2048x8x64 : Shape := ⟨4, ![8, 2048, 8, 64]⟩
abbrev S8x8x2048x64 : Shape := ⟨4, ![8, 8, 2048, 64]⟩
abbrev S8x2064x8x64 : Shape := ⟨4, ![8, 2064, 8, 64]⟩
abbrev S8x8x2064x64 : Shape := ⟨4, ![8, 8, 2064, 64]⟩
abbrev S8x8x2048x2064 : Shape := ⟨4, ![8, 8, 2048, 2064]⟩
abbrev S_ : Shape := ⟨0, ![]⟩
abbrev S2048 : Shape := ⟨1, ![2048]⟩
abbrev S2048x1 : Shape := ⟨2, ![2048, 1]⟩
abbrev S2064 : Shape := ⟨1, ![2064]⟩
abbrev S1x2064 : Shape := ⟨2, ![1, 2064]⟩
abbrev S2048x2064 : Shape := ⟨2, ![2048, 2064]⟩

abbrev nBuf : Space → Nat
  | .hbm => 84
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S16x512, .f32⟩
  | .hbm, ⟨4, _⟩ => ⟨S16x512, .f32⟩
  | .hbm, ⟨5, _⟩ => ⟨S1x16x512, .f32⟩
  | .hbm, ⟨6, _⟩ => ⟨S8x16x512, .f32⟩
  | .hbm, ⟨7, _⟩ => ⟨S8x2064x512, .f32⟩
  | .hbm, ⟨8, _⟩ => ⟨S1x16x512, .f32⟩
  | .hbm, ⟨9, _⟩ => ⟨S8x16x512, .f32⟩
  | .hbm, ⟨10, _⟩ => ⟨S8x2064x512, .f32⟩
  | .hbm, ⟨11, _⟩ => ⟨S8x2048x8x64, .f32⟩
  | .hbm, ⟨12, _⟩ => ⟨S8x8x2048x64, .f32⟩
  | .hbm, ⟨13, _⟩ => ⟨S8x2064x8x64, .f32⟩
  | .hbm, ⟨14, _⟩ => ⟨S8x8x2064x64, .f32⟩
  | .hbm, ⟨15, _⟩ => ⟨S8x2064x8x64, .f32⟩
  | .hbm, ⟨16, _⟩ => ⟨S8x8x2064x64, .f32⟩
  | .hbm, ⟨17, _⟩ => ⟨S8x8x2048x2064, .f32⟩
  | .hbm, ⟨18, _⟩ => ⟨S_, .f32⟩
  | .hbm, ⟨19, _⟩ => ⟨S8x8x2048x2064, .f32⟩
  | .hbm, ⟨20, _⟩ => ⟨S8x8x2048x2064, .f32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048x1, .i32⟩
  | .hbm, ⟨26, _⟩ => ⟨S2064, .i32⟩
  | .hbm, ⟨27, _⟩ => ⟨S1x2064, .i32⟩
  | .hbm, ⟨28, _⟩ => ⟨S2048x2064, .i32⟩
  | .hbm, ⟨29, _⟩ => ⟨S2048x2064, .i32⟩
  | .hbm, ⟨30, _⟩ => ⟨S2048x2064, .i1⟩
  | .hbm, ⟨31, _⟩ => ⟨S8x8x2048x2064, .f32⟩
  | .hbm, ⟨32, _⟩ => ⟨S8x8x2048x2064, .f32⟩
  | .hbm, ⟨33, _⟩ => ⟨S_, .f32⟩
  | .hbm, ⟨34, _⟩ => ⟨S8x8x2048x2064, .f32⟩
  | .hbm, ⟨35, _⟩ => ⟨S8x8x2048x2064, .f32⟩
  | .hbm, ⟨36, _⟩ => ⟨S8x8x2048x2064, .f32⟩
  | .hbm, ⟨37, _⟩ => ⟨S8x8x2048x2064, .f32⟩
  | .hbm, ⟨38, _⟩ => ⟨S8x8x2048x2064, .i1⟩
  | .hbm, ⟨39, _⟩ => ⟨S8x8x2048x2064, .f32⟩
  | .hbm, ⟨40, _⟩ => ⟨S8x8x2048x2064, .f32⟩
  | .hbm, ⟨41, _⟩ => ⟨S8x8x2048x2064, .f32⟩
  | .hbm, ⟨42, _⟩ => ⟨S8x8x2048x2064, .f32⟩
  | .hbm, ⟨43, _⟩ => ⟨S8x8x2048x2064, .f32⟩
  | .hbm, ⟨44, _⟩ => ⟨S8x8x2048x2064, .f32⟩
  | .hbm, ⟨45, _⟩ => ⟨S8x8x2048x2064, .f32⟩
  | .hbm, ⟨46, _⟩ => ⟨S8x8x2048x2064, .f32⟩
  | .hbm, ⟨47, _⟩ => ⟨S8x8x2048x2064, .f32⟩
  | .hbm, ⟨48, _⟩ => ⟨S_, .f32⟩
  | .hbm, ⟨49, _⟩ => ⟨S_, .f32⟩
  | .hbm, ⟨50, _⟩ => ⟨S8x8x2048x2064, .i1⟩
  | .hbm, ⟨51, _⟩ => ⟨S8x8x2048x2064, .f32⟩
  | .hbm, ⟨52, _⟩ => ⟨S8x8x2048x2064, .f32⟩
  | .hbm, ⟨53, _⟩ => ⟨S_, .f32⟩
  | .hbm, ⟨54, _⟩ => ⟨S_, .f32⟩
  | .hbm, ⟨55, _⟩ => ⟨S8x8x2048x2064, .f32⟩
  | .hbm, ⟨56, _⟩ => ⟨S8x8x2048x2064, .f32⟩
  | .hbm, ⟨57, _⟩ => ⟨S8x8x2048x2064, .f32⟩
  | .hbm, ⟨58, _⟩ => ⟨S_, .f32⟩
  | .hbm, ⟨59, _⟩ => ⟨S8x8x2048x2064, .f32⟩
  | .hbm, ⟨60, _⟩ => ⟨S8x8x2048x2064, .f32⟩
  | .hbm, ⟨61, _⟩ => ⟨S8x8x2048x2064, .f32⟩
  | .hbm, ⟨62, _⟩ => ⟨S8x8x2048x2064, .f32⟩
  | .hbm, ⟨63, _⟩ => ⟨S8x8x2048x2064, .i1⟩
  | .hbm, ⟨64, _⟩ => ⟨S8x8x2048x2064, .f32⟩
  | .hbm, ⟨65, _⟩ => ⟨S8x8x2048x2064, .f32⟩
  | .hbm, ⟨66, _⟩ => ⟨S8x8x2048x2064, .f32⟩
  | .hbm, ⟨67, _⟩ => ⟨S8x8x2048x2064, .f32⟩
  | .hbm, ⟨68, _⟩ => ⟨S8x8x2048x2064, .f32⟩
  | .hbm, ⟨69, _⟩ => ⟨S8x8x2048x2064, .f32⟩
  | .hbm, ⟨70, _⟩ => ⟨S8x8x2048x2064, .f32⟩
  | .hbm, ⟨71, _⟩ => ⟨S8x8x2048x2064, .f32⟩
  | .hbm, ⟨72, _⟩ => ⟨S8x8x2048x2064, .f32⟩
  | .hbm, ⟨73, _⟩ => ⟨S8x8x2048x2064, .f32⟩
  | .hbm, ⟨74, _⟩ => ⟨S8x8x2048x2064, .f32⟩
  | .hbm, ⟨75, _⟩ => ⟨S_, .f32⟩
  | .hbm, ⟨76, _⟩ => ⟨S_, .f32⟩
  | .hbm, ⟨77, _⟩ => ⟨S8x8x2048x2064, .i1⟩
  | .hbm, ⟨78, _⟩ => ⟨S8x8x2048x2064, .f32⟩
  | .hbm, ⟨79, _⟩ => ⟨S8x8x2048x2064, .f32⟩
  | .hbm, ⟨80, _⟩ => ⟨S8x8x2048x64, .f32⟩
  | .hbm, ⟨81, _⟩ => ⟨S8x2048x8x64, .f32⟩
  | .hbm, ⟨82, _⟩ => ⟨S8x2048x512, .f32⟩
  | .hbm, ⟨83, _⟩ => ⟨S8x2048x512, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v25 : Ref sig .tc := ⟨.hbm, 47, rfl⟩
abbrev main_cst_0 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v26 : Ref sig .tc := ⟨.hbm, 52, rfl⟩
abbrev main_call2_cst : Ref sig .tc := ⟨.hbm, 53, rfl⟩
abbrev main_call2_v0 : Ref sig .tc := ⟨.hbm, 54, rfl⟩
abbrev main_v27 : Ref sig .tc := ⟨.hbm, 55, rfl⟩
abbrev main_v28 : Ref sig .tc := ⟨.hbm, 56, rfl⟩
abbrev main_call3_v0 : Ref sig .tc := ⟨.hbm, 57, rfl⟩
abbrev main_call3_call0_cst : Ref sig .tc := ⟨.hbm, 58, rfl⟩
abbrev main_call3_call0_v0 : Ref sig .tc := ⟨.hbm, 59, rfl⟩
abbrev main_call3_call0_v1 : Ref sig .tc := ⟨.hbm, 60, rfl⟩
abbrev main_call3_call0_v2 : Ref sig .tc := ⟨.hbm, 61, rfl⟩
abbrev main_call3_call0_v3 : Ref sig .tc := ⟨.hbm, 62, rfl⟩
abbrev main_call3_call0_v4 : Ref sig .tc := ⟨.hbm, 63, rfl⟩
abbrev main_call3_call0_v5 : Ref sig .tc := ⟨.hbm, 64, rfl⟩
abbrev main_call3_call0_v6 : Ref sig .tc := ⟨.hbm, 65, rfl⟩
abbrev main_call3_call0_v7 : Ref sig .tc := ⟨.hbm, 66, rfl⟩
abbrev main_call3_call0_v8 : Ref sig .tc := ⟨.hbm, 67, rfl⟩
abbrev main_call3_call0_v9 : Ref sig .tc := ⟨.hbm, 68, rfl⟩
abbrev main_call3_call0_v10 : Ref sig .tc := ⟨.hbm, 69, rfl⟩
abbrev main_call3_call0_v11 : Ref sig .tc := ⟨.hbm, 70, rfl⟩
abbrev main_call3_v1 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_1 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S1024x5120 : Shape := ⟨2, ![1024, 5120]⟩
abbrev S16384x1024 : Shape := ⟨2, ![16384, 1024]⟩
abbrev S1x1024 : Shape := ⟨2, ![1, 1024]⟩
abbrev S16384x1536 : Shape := ⟨2, ![16384, 1536]⟩
abbrev S16384x512 : Shape := ⟨2, ![16384, 512]⟩
abbrev S16384x2048 : Shape := ⟨2, ![16384, 2048]⟩
abbrev S512x1024 : Shape := ⟨2, ![512, 1024]⟩
abbrev S512x1536 : Shape := ⟨2, ![512, 1536]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024x1536 : Shape := ⟨2, ![1024, 1536]⟩
abbrev S1024x512 : Shape := ⟨2, ![1024, 512]⟩
abbrev S1024x2048 : Shape := ⟨2, ![1024, 2048]⟩

abbrev nBuf : Space → Nat
  | .hbm => 11
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5120, .f32⟩
  | .hbm, ⟨3, _⟩ => ⟨S16384x1024, .f32⟩
  | .hbm, ⟨4, _⟩ => ⟨S1x1024, .f32⟩
  | .hbm, ⟨5, _⟩ => ⟨S1024x5120, .bf16⟩
  | .hbm, ⟨6, _⟩ => ⟨S16384x1536, .f32⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5120, .bf16⟩
  | .local _ .vmem, ⟨4, _⟩ => ⟨S512x1536, .f32⟩
  | .local _ .vmem, ⟨5, _⟩ => ⟨S512x1536, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x2048, .f32⟩
  | .local _ .vmem, ⟨13, _⟩ => ⟨S512x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x2048x1024 : Shape := ⟨3, ![8, 2048, 1024]⟩
abbrev S1024 : Shape := ⟨1, ![1024]⟩
abbrev S1024x5120 : Shape := ⟨2, ![1024, 5120]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5120 : Shape := ⟨3, ![8, 2048, 5120]⟩
abbrev S16384x5120 : Shape := ⟨2, ![16384, 5120]⟩
abbrev S16384x1536 : Shape := ⟨2, ![16384, 1536]⟩
abbrev S16384x512 : Shape := ⟨2, ![16384, 512]⟩
abbrev S16384x2048 : Shape := ⟨2, ![16384, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5120, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x5120, .f32⟩
  | .hbm, ⟨20, _⟩ => ⟨S16384x5120, .f32⟩
  | .hbm, ⟨21, _⟩ => ⟨S16384x1536, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x1536, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S16384x512, .bf16⟩
  | .hbm, ⟨30, _⟩ => ⟨S16384x512, .bf16⟩
  | .hbm, ⟨31, _⟩ => ⟨S16384x512, .bf16⟩
  | .hbm, ⟨32, _⟩ => ⟨S16384x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel3.lean ====
abbrev S16384x1536 : Shape := ⟨2, ![16384, 1536]⟩
abbrev S16384x512 : Shape := ⟨2, ![16384, 512]⟩
abbrev S16384x2048 : Shape := ⟨2, ![16384, 2048]⟩
abbrev S8x2048x1024 : Shape := ⟨3, ![8, 2048, 1024]⟩
abbrev S16x1536 : Shape := ⟨2, ![16, 1536]⟩
abbrev S3x512 : Shape := ⟨2, ![3, 512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S16384x1024 : Shape := ⟨2, ![16384, 1024]⟩
abbrev S1x1024 : Shape := ⟨2, ![1, 1024]⟩
abbrev S512x1536 : Shape := ⟨2, ![512, 1536]⟩
abbrev S512x512 : Shape := ⟨2, ![512, 512]⟩
abbrev S512x2048 : Shape := ⟨2, ![512, 2048]⟩
abbrev S520x512 : Shape := ⟨2, ![520, 512]⟩
abbrev S8x512 : Shape := ⟨2, ![8, 512]⟩
abbrev S1x512 : Shape := ⟨2, ![1, 512]⟩
abbrev S512 : Shape := ⟨1, ![512]⟩
abbrev S512x1 : Shape := ⟨2, ![512, 1]⟩

abbrev nBuf : Space → Nat
  | .hbm => 20
  | .vmem => 22
  | .smem => 0
  | _ => 0

abbrev bufTy : (tb : Table) → Fin (tcTables nBuf tb) → BufTy
  | .hbm, ⟨0, _⟩ => ⟨S16384x1536, .f32⟩
  | .hbm, ⟨1, _⟩ => ⟨S16384x512, .bf16⟩
  | .hbm, ⟨2, _⟩ => ⟨S16384x2048, .f32⟩
  | .hbm, ⟨3, _⟩ => ⟨S8x2048x1024, .f32⟩
  | .hbm, ⟨4, _⟩ => ⟨S16x1536, .f32⟩
  | .hbm, ⟨5, _⟩ => ⟨S3x512, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S16384x1024, .f32⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S1024x2048, .bf16⟩
  | .hbm, ⟨17, _⟩ => ⟨S16384x1024, .f32⟩
  | .hbm, ⟨18, _⟩ => ⟨S16384x1024, .bf16⟩
  | .hbm, ⟨19, _⟩ => ⟨S16384x2048, .bf16⟩
  | .local _ .vmem, ⟨0, _⟩ => ⟨S512x1536, .f32⟩
  | .local _ .vmem, ⟨1, _⟩ => ⟨S512x1536, .f32⟩
  | .local _ .vmem, ⟨2, _⟩ => ⟨S512x512, .bf16⟩
  | .local _ .vmem, ⟨3, _⟩ => ⟨S512x512, .bf16⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S16x1536, .f32⟩
  | .local _ .vmem, ⟨9, _⟩ => ⟨S3x512, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2048, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x2048, .bf16⟩
  | .local _ .vmem, ⟨20, _⟩ => ⟨S512x2048, .bf16⟩
  | .local _ .vmem, ⟨21, _⟩ => ⟨S520x512, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S16384x1536 : Shape := ⟨2, ![16384, 1536]⟩
abbrev S16384x512 : Shape := ⟨2, ![16384, 512]⟩
abbrev S16384x2048 : Shape := ⟨2, ![16384, 2048]⟩
abbrev S8x2048x1024 : Shape := ⟨3, ![8, 2048, 1024]⟩
abbrev S16x1536 : Shape := ⟨2, ![16, 1536]⟩
abbrev S3x512 : Shape := ⟨2, ![3, 512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x2048x1536 : Shape := ⟨3, ![8, 2048, 1536]⟩
abbrev S1x16x1536 : Shape := ⟨3, ![1, 16, 1536]⟩
abbrev S8x16x1536 : Shape := ⟨3, ![8, 16, 1536]⟩
abbrev S8x2064x1536 : Shape := ⟨3, ![8, 2064, 1536]⟩
abbrev S8x2064x512 : Shape := ⟨3, ![8, 2064, 512]⟩
abbrev S_ : Shape := ⟨0, ![]⟩
abbrev S8x2066x512 : Shape := ⟨3, ![8, 2066, 512]⟩
abbrev S1x512 : Shape := ⟨2, ![1, 512]⟩
abbrev S512 : Shape := ⟨1, ![512]⟩
abbrev S1x1x512 : Shape := ⟨3, ![1, 1, 512]⟩
abbrev S8x2048x512 : Shape := ⟨3, ![8, 2048, 512]⟩
abbrev S8x2048x2048 : Shape := ⟨3, ![8, 2048, 2048]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 94
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S16384x512, .bf16⟩
  | .hbm, ⟨2, _⟩ => ⟨S16384x2048, .f32⟩
  | .hbm, ⟨3, _⟩ => ⟨S8x2048x1024, .f32⟩
  | .hbm, ⟨4, _⟩ => ⟨S16x1536, .f32⟩
  | .hbm, ⟨5, _⟩ => ⟨S3x512, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S8x2048x1536, .f32⟩
  | .hbm, ⟨12, _⟩ => ⟨S1x16x1536, .f32⟩
  | .hbm, ⟨13, _⟩ => ⟨S8x16x1536, .f32⟩
  | .hbm, ⟨14, _⟩ => ⟨S8x2064x1536, .f32⟩
  | .hbm, ⟨15, _⟩ => ⟨S8x2064x512, .f32⟩
  | .hbm, ⟨16, _⟩ => ⟨S8x2064x512, .f32⟩
  | .hbm, ⟨17, _⟩ => ⟨S8x2064x512, .f32⟩
  | .hbm, ⟨18, _⟩ => ⟨S8x2064x512, .f32⟩
  | .hbm, ⟨19, _⟩ => ⟨S_, .i32⟩
  | .hbm, ⟨20, _⟩ => ⟨S_, .f32⟩
  | .hbm, ⟨21, _⟩ => ⟨S8x2066x512, .f32⟩
  | .hbm, ⟨22, _⟩ => ⟨S8x2064x512, .f32⟩
  | .hbm, ⟨23, _⟩ => ⟨S1x512, .f32⟩
  | .hbm, ⟨24, _⟩ => ⟨S512, .f32⟩
  | .hbm, ⟨25, _⟩ => ⟨S1x1x512, .f32⟩
  | .hbm, ⟨26, _⟩ => ⟨S8x2064x512, .f32⟩
  | .hbm, ⟨27, _⟩ => ⟨S8x2064x512, .f32⟩
  | .hbm, ⟨28, _⟩ => ⟨S8x2064x512, .f32⟩
  | .hbm, ⟨29, _⟩ => ⟨S1x512, .f32⟩
  | .hbm, ⟨30, _⟩ => ⟨S512, .f32⟩
  | .hbm, ⟨31, _⟩ => ⟨S1x1x512, .f32⟩
  | .hbm, ⟨32, _⟩ => ⟨S8x2064x512, .f32⟩
  | .hbm, ⟨33, _⟩ => ⟨S8x2064x512, .f32⟩
  | .hbm, ⟨34, _⟩ => ⟨S8x2064x512, .f32⟩
  | .hbm, ⟨35, _⟩ => ⟨S8x2064x512, .f32⟩
  | .hbm, ⟨36, _⟩ => ⟨S1x512, .f32⟩
  | .hbm, ⟨37, _⟩ => ⟨S512, .f32⟩
  | .hbm, ⟨38, _⟩ => ⟨S1x1x512, .f32⟩
  | .hbm, ⟨39, _⟩ => ⟨S8x2064x512, .f32⟩
  | .hbm, ⟨40, _⟩ => ⟨S8x2064x512, .f32⟩
  | .hbm, ⟨41, _⟩ => ⟨S8x2064x512, .f32⟩
  | .hbm, ⟨42, _⟩ => ⟨S8x2064x512, .f32⟩
  | .hbm, ⟨43, _⟩ => ⟨S8x2048x512, .f32⟩
  | .hbm, ⟨44, _⟩ => ⟨S8x2048x1024, .f32⟩
  | .hbm, ⟨45, _⟩ => ⟨S16384x512, .f32⟩
  | .hbm, ⟨46, _⟩ => ⟨S8x2048x512, .f32⟩
  | .hbm, ⟨47, _⟩ => ⟨S8x2048x1024, .f32⟩
  | .hbm, ⟨48, _⟩ => ⟨S8x2048x2048, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x2048x1024, .f32⟩
  | .hbm, ⟨55, _⟩ => ⟨S8x2048x1024, .f32⟩
  | .hbm, ⟨56, _⟩ => ⟨S_, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x2048x1024, .f32⟩
  | .hbm, ⟨64, _⟩ => ⟨S8x2048x1024, .f32⟩
  | .hbm, ⟨65, _⟩ => ⟨S_, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S_, .f32⟩
  | .hbm, ⟨74, _⟩ => ⟨S8x2048, .f32⟩
  | .hbm, ⟨75, _⟩ => ⟨S8x2048x1, .f32⟩
  | .hbm, ⟨76, _⟩ => ⟨S_, .f32⟩
  | .hbm, ⟨77, _⟩ => ⟨S8x2048x1, .f32⟩
  | .hbm, ⟨78, _⟩ => ⟨S8x2048x1, .f32⟩
  | .hbm, ⟨79, _⟩ => ⟨S_, .f32⟩
  | .hbm, ⟨80, _⟩ => ⟨S8x2048x1, .f32⟩
  | .hbm, ⟨81, _⟩ => ⟨S8x2048x1, .f32⟩
  | .hbm, ⟨82, _⟩ => ⟨S8x2048x1, .f32⟩
  | .hbm, ⟨83, _⟩ => ⟨S8x2048x1024, .f32⟩
  | .hbm, ⟨84, _⟩ => ⟨S8x2048x1024, .f32⟩
  | .hbm, ⟨85, _⟩ => ⟨S1x1x1024, .f32⟩
  | .hbm, ⟨86, _⟩ => ⟨S8x2048x1024, .f32⟩
  | .hbm, ⟨87, _⟩ => ⟨S8x2048x1024, .f32⟩
  | .hbm, ⟨88, _⟩ => ⟨S8x2048x2048, .f32⟩
  | .hbm, ⟨89, _⟩ => ⟨S16384x1024, .f32⟩
  | .hbm, ⟨90, _⟩ => ⟨S16384x1024, .f32⟩
  | .hbm, ⟨91, _⟩ => ⟨S16384x1024, .bf16⟩
  | .hbm, ⟨92, _⟩ => ⟨S16384x2048, .f32⟩
  | .hbm, ⟨93, _⟩ => ⟨S16384x2048, .bf16⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst : Ref sig .tc := ⟨.hbm, 53, rfl⟩
abbrev main_v40 : Ref sig .tc := ⟨.hbm, 54, rfl⟩
abbrev main_v41 : Ref sig .tc := ⟨.hbm, 55, rfl⟩
abbrev main_cst_0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_1 : Ref sig .tc := ⟨.hbm, 62, rfl⟩
abbrev main_v47 : Ref sig .tc := ⟨.hbm, 63, rfl⟩
abbrev main_v48 : Ref sig .tc := ⟨.hbm, 64, rfl⟩
abbrev main_cst_2 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_3 : Ref sig .tc := ⟨.hbm, 73, rfl⟩
abbrev main_v56 : Ref sig .tc := ⟨.hbm, 74, rfl⟩
abbrev main_v57 : Ref sig .tc := ⟨.hbm, 75, rfl⟩
abbrev main_cst_4 : Ref sig .tc := ⟨.hbm, 76, rfl⟩
abbrev main_v58 : Ref sig .tc := ⟨.hbm, 77, rfl⟩
abbrev main_v59 : Ref sig .tc := ⟨.hbm, 78, rfl⟩
abbrev main_cst_5 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩

abbrev nD : Nat := 1
abbrev τ : Topo := Topo.v7x

variable {F : FTy → Type} [FloatOps F]
-- ==== Kernel4.lean ====
abbrev S16384x1024 : Shape := ⟨2, ![16384, 1024]⟩
abbrev S16384x16384 : Shape := ⟨2, ![16384, 16384]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S16384x16384, .bf16⟩
  | .hbm, ⟨4, _⟩ => ⟨S16384x1024, .f32⟩
  | .hbm, ⟨5, _⟩ => ⟨S1024, .f32⟩
  | .hbm, ⟨6, _⟩ => ⟨S1x1024, .f32⟩
  | .hbm, ⟨7, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_17 : BitVec 32 := 0#32
  let v34 : BitVec 1 := Scalar.cmpi .ne v33 c0_i32_17
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S16384x1024 : Shape := ⟨2, ![16384, 1024]⟩
abbrev S16384x16384 : Shape := ⟨2, ![16384, 16384]⟩
abbrev S1024 : Shape := ⟨1, ![1024]⟩
abbrev S1024x16384 : Shape := ⟨2, ![1024, 16384]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S16384x16384, .bf16⟩
  | .hbm, ⟨4, _⟩ => ⟨S16384x1024, .f32⟩
  | .hbm, ⟨5, _⟩ => ⟨S1024, .f32⟩
  | .hbm, ⟨6, _⟩ => ⟨S16384x1024, .f32⟩
  | .hbm, ⟨7, _⟩ => ⟨S1024x16384, .f32⟩
  | .hbm, ⟨8, _⟩ => ⟨S16384x16384, .f32⟩
  | .hbm, ⟨9, _⟩ => ⟨S16384x16384, .f32⟩
  | .hbm, ⟨10, _⟩ => ⟨S16384x16384, .f32⟩
  | .hbm, ⟨11, _⟩ => ⟨S_, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384x16384, .f32⟩
  | .hbm, ⟨24, _⟩ => ⟨S16384x16384, .f32⟩
  | .hbm, ⟨25, _⟩ => ⟨S16384x16384, .f32⟩
  | .hbm, ⟨26, _⟩ => ⟨S16384x16384, .f32⟩
  | .hbm, ⟨27, _⟩ => ⟨S16384x16384, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Bits.Loop.lean ====
/-
  The attention kernel as printed, at any float values: its loop over the past key tiles.

  The loop counts a word upwards from 1 and stops when the word passes the query tile's number or the smallest running
  total passes a bound. Only the first of the two tests is needed to see that it ends: with `n` tiles still ahead it makes
  at most `n` trips. Each trip reads one tile of the keys and one of the values at an offset that stays inside the
  buffers; nothing is written. So the specification is: holding the two buffers, the loop hands them back unchanged and
  returns some state.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic

@[expose] public section

noncomputable section

namespace Cert.Proof.AttnBits

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The loop is entered at the number of trips it may still make. -/
abbrev trips : Variants := Variants.nat

/-! ## The counter's words -/

/-- Past the last tile the first test fails, -/
theorem sle_past : ∀ q < 8, Scalar.cmpi .sle (BitVec.ofNat 32 (q + 1)) (BitVec.ofNat 32 q) = 0#1 := by decide

/-- and then so does the conjunction. -/
theorem andi_zero : ∀ x : BitVec 1, ¬Scalar.andi 0#1 x = 1#1 := by decide

/-- One trip on. -/
theorem addi_one : ∀ j < 9, Scalar.addi (BitVec.ofNat 32 j) 1#32 = BitVec.ofNat 32 (j + 1) := by decide

/-- The tile `q - j` starts at a multiple of 256 and ends inside the 2048 rows. -/
theorem tile_inside : ∀ q < 8, ∀ j ≤ q,
    256 ∣ (Scalar.muli (Scalar.subi (BitVec.ofNat 32 q) (BitVec.ofNat 32 j)) 256#32).toNat
      ∧ (Scalar.indexCast (Scalar.muli (Scalar.subi (BitVec.ofNat 32 q) (BitVec.ofNat 32 j)) 256#32)).toNat + 256 ≤ 2048 := by
  decide

/-- What the body assumes of the counter holds at every trip. -/
theorem chk_of_le (i : grid0.Coords) (j : ℕ) (hj : j ≤ (i 2).val) : k0_chk1 i (BitVec.ofNat 32 j) := by
  obtain ⟨h1, h2⟩ := tile_inside (i 2).val (i 2).isLt j hj
  refine ⟨h1, fun a => ?_⟩
  fin_cases a
  · show 0 + 1 ≤ 1; decide
  · exact h2
  · show 0 + 512 ≤ 512; decide

/-! ## The specification -/

/-- What the loop carries from trip to trip. -/
abbrev State (F : FTy → Type) : Type := (Λ₀ F).Result 1

/-- Core `c` holds the key and value buffers of a loop's record, at contents that read `k` and `v`. -/
def held (c : Dev nD) (a : Cc0While1 F) (k v : Vec F S1x2048x512 .bf16) : sProp 𝕄 :=
  iprop(owns (c : Thread nD τ) a.arg4 fullShare k ∗ owns (c : Thread nD τ) a.arg5 fullShare v)

/-- The loop hands the two buffers back and returns some state. -/
def spec (c : Dev nD) (a : Cc0While1 F) (k v : Vec F S1x2048x512 .bf16) : sWPT 𝕄 (State F) := do
  sWPT.consume (held c a k v)
  let r ← sWPT.arbitrary
  sWPT.produce (held c a k v)
  pure r

theorem spec_apply (c : Dev nD) (a : Cc0While1 F) (k v : Vec F S1x2048x512 .bf16) (K : State F → sProp 𝕄) :
    spec c a k v K = iprop(held c a k v ∗ ∀ r : State F, held c a k v -∗ K r) := rfl

set_option maxHeartbeats 1000000 in
/-- A record's function meets the specification, entered with `n` trips left: by induction on `n`. -/
theorem spec_le (c : Dev nD) (E : Set ℕ) (k v : Vec F S1x2048x512 .bf16) :
    ∀ n (a : Cc0While1 F) (j : ℕ), a.arg9 = BitVec.ofNat 32 j → j + n = (a.i 2).val + 1 → ∀ K, spec c a k v K
      ⊢ wp frame (wpE (defs₀ (F := F)) trips (c : Thread nD τ) (some n)) E (defs₀ (F := F) .tc 1 a) K := by
  intro n
  induction n with
  | zero =>
    rintro ⟨i, arg4, harg4, arg5, harg5, v8, v15, v21, v28, v34, v41, v47, v54, v61, arg9, arg10, arg11, arg12, arg13,
      arg14, arg15, arg16, arg17, arg18, arg19, arg20, arg21, arg22, arg23, arg24, arg25, arg26⟩ j hj hn K
    dsimp only at hj hn
    rw [spec_apply]
    show _ ⊢ wp frame (wpE (defs₀ (F := F)) trips (c : Thread nD τ) (some 0)) E
      (cc0_while1 i arg4 harg4 arg5 harg5 v8 v15 v21 v28 v34 v41 v47 v54 v61 arg9 arg10 arg11 arg12 arg13 arg14 arg15
        arg16 arg17 arg18 arg19 arg20 arg21 arg22 arg23 arg24 arg25 arg26) K
    simp only [cc0_while1_eq_skeleton]; unfold cc0_while1_skel
    have hstop : Scalar.cmpi .sle arg9 (BitVec.ofNat 32 (i 2).val) = 0#1 := by
      rw [hj, show j = (i 2).val + 1 by omega]; exact sle_past _ (i 2).isLt
    simp only [hstop, if_neg (andi_zero _), Prog.pure_eq_ret]
    iintro ⟨H, Hk⟩
    rw [wp_ret]; imodintro
    iapply Hk
    iexact H
  | succ n ih =>
    rintro ⟨i, arg4, harg4, arg5, harg5, v8, v15, v21, v28, v34, v41, v47, v54, v61, arg9, arg10, arg11, arg12, arg13,
      arg14, arg15, arg16, arg17, arg18, arg19, arg20, arg21, arg22, arg23, arg24, arg25, arg26⟩ j hj hn K
    dsimp only at hj hn
    have hlt : (i 2).val < 8 := (i 2).isLt
    have hchk : k0_chk1 i arg9 := by rw [hj]; exact chk_of_le i j (by omega)
    have hnext : Scalar.addi arg9 1#32 = BitVec.ofNat 32 (j + 1) := by rw [hj]; exact addi_one j (by omega)
    rw [spec_apply]
    show _ ⊢ wp frame (wpE (defs₀ (F := F)) trips (c : Thread nD τ) (some (n + 1))) E
      (cc0_while1 i arg4 harg4 arg5 harg5 v8 v15 v21 v28 v34 v41 v47 v54 v61 arg9 arg10 arg11 arg12 arg13 arg14 arg15
        arg16 arg17 arg18 arg19 arg20 arg21 arg22 arg23 arg24 arg25 arg26) K
    simp only [cc0_while1_eq_skeleton]; unfold cc0_while1_skel
    by_cases hgo : Scalar.andi (Scalar.cmpi .sle arg9 (BitVec.ofNat 32 (i 2).val)) (Scalar.cmpf .ole arg10 (Scalar.ofBits .f32 0x43160000#32)) = 1#1
    · simp only [hgo, ↓reduceIte, k0_part15_eq_skeleton, k0_part16_eq_skeleton, k0_part17_eq_skeleton,
        k0_part18_eq_skeleton, k0_part19_eq_skeleton]
      unfold held owns
      iintro ⟨⟨⟨%fk, %hk, Hkb⟩, ⟨%fv, %hv, Hvb⟩⟩, Hk⟩
      sl_exec
      iapply (wp_call_spec trips (c : Thread nD τ) (some (n + 1)) E (spec c _ k v) n
        (fun u hu => by cases hu; exact Nat.lt_succ_self n) (ih _ (j + 1) hnext (by dsimp only; omega)))
      rw [spec_apply]; unfold held owns
      isplitl [Hkb Hvb]
      · isplitl [Hkb]
        · iexists fk; isplitr; · ipureintro; exact hk
          iexact Hkb
        iexists fv; isplitr; · ipureintro; exact hv
        iexact Hvb
      iintro %r H
      rw [wp_ret]; imodintro
      iapply Hk
      iexact H
    · simp only [hgo, ↓reduceIte, Prog.pure_eq_ret]
      iintro ⟨H, Hk⟩
      rw [wp_ret]; imodintro
      iapply Hk
      iexact H

end Cert.Proof.AttnBits

end
-- ==== Proof.Bits.Body.lean ====
/-
  The attention kernel as printed, at any float values: one call of its body.

  The body reads the query tile, the key and value rows and the 16 extra rows, runs its loop, and writes its output tile
  under one of two tests on the smallest running total. At arbitrary float values neither test need succeed, so nothing is
  said of what the output buffer holds afterwards; the five inputs' buffers come back as they were.
-/
module

public import proofs.«01_k».proof.Proof.Bits.Loop

@[expose] public section

noncomputable section

namespace Cert.Proof.AttnBits

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- One call of the body on whole staging buffers: the inputs' come back as they were, the output's at some contents. -/
theorem sound_kernel (c : Dev nD) (E : Set ℕ) (i : grid0.Coords)
    (arg3 : Memref sig .tc .vmem S1x256x512 .bf16) (harg3 : arg3.IsWhole)
    (arg4 : Memref sig .tc .vmem S1x2048x512 .bf16) (harg4 : arg4.IsWhole)
    (arg5 : Memref sig .tc .vmem S1x2048x512 .bf16) (harg5 : arg5.IsWhole)
    (arg6 : Memref sig .tc .vmem S16x512 .bf16) (harg6 : arg6.IsWhole)
    (arg7 : Memref sig .tc .vmem S16x512 .bf16) (harg7 : arg7.IsWhole)
    (arg8 : Memref sig .tc .vmem S1x256x512 .bf16) (harg8 : arg8.IsWhole)
    (q : Vec F S1x256x512 .bf16) (k v : Vec F S1x2048x512 .bf16) (km vm : Vec F S16x512 .bf16) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare km ∗ owns (c : Thread nD τ) arg7 fullShare vm
        ∗ (∃ d, owns (c : Thread nD τ) arg8 fullShare d)
        ∗ (iprop(owns (c : Thread nD τ) arg3 fullShare q ∗ owns (c : Thread nD τ) arg4 fullShare k ∗ owns (c : Thread nD τ) arg5 fullShare v
            ∗ owns (c : Thread nD τ) arg6 fullShare km ∗ owns (c : Thread nD τ) arg7 fullShare vm
            ∗ (∃ d, owns (c : Thread nD τ) arg8 fullShare d)) -∗ K ⟨⟩))
      ⊢ wp frame (wpE (defs₀ (F := F)) trips c none) E
          (cc0__attn_kernel i arg3 harg3 arg4 harg4 arg5 harg5 arg6 harg6 arg7 harg7 arg8 harg8) K := by
  simp only [cc0__attn_kernel_eq_skeleton]; unfold cc0__attn_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  iintro ⟨Hq, Hkb, Hvb, Hkm, Hvm, ⟨%d, Hd⟩, Hk⟩
  unfold owns
  icases Hq with ⟨%fq, %hq, Hq⟩
  icases Hkb with ⟨%fk, %hk, Hkb⟩
  icases Hvb with ⟨%fv, %hv, Hvb⟩
  icases Hkm with ⟨%fkm, %hkm, Hkm⟩
  icases Hvm with ⟨%fvm, %hvm, Hvm⟩
  icases Hd with ⟨%fd, -, Hd⟩
  sl_exec
  iapply (wp_call_spec trips (c : Thread nD τ) none E (spec c _ k v) (i 2).val
    (fun u hu => nomatch hu) (spec_le c E k v (i 2).val _ 1 rfl (by dsimp only; omega)))
  rw [spec_apply]; unfold held owns
  isplitl [Hkb Hvb]
  · isplitl [Hkb]
    · iexists fk; isplitr; · ipureintro; exact hk
      iexact Hkb
    iexists fv; isplitr; · ipureintro; exact hv
    iexact Hvb
  iintro %r ⟨⟨%fk', %hk', Hkb⟩, ⟨%fv', %hv', Hvb⟩⟩
  obtain ⟨r0, r1, r2, r3, r4, r5, r6, r7, r8, r9, r10, r11, r12, r13, r14, r15, r16, r17⟩ := r
  sl_exec
  sl_step
  iapply Hk
  isplitl [Hq]
  · iexists fq; isplitr; · ipureintro; exact hq
    iexact Hq
  isplitl [Hkb]
  · iexists fk'; isplitr; · ipureintro; exact hk'
    iexact Hkb
  isplitl [Hvb]
  · iexists fv'; isplitr; · ipureintro; exact hv'
    iexact Hvb
  isplitl [Hkm]
  · iexists fkm; isplitr; · ipureintro; exact hkm
    iexact Hkm
  isplitl [Hvm]
  · iexists fvm; isplitr; · ipureintro; exact hvm
    iexact Hvm
  iexists _; iexists _; isplitr
  swap; · iexact Hd
  ipureintro; rfl

end Cert.Proof.AttnBits

end
-- ==== Proof.Bits.Run.lean ====
/-
  The attention kernel as printed, at any float values: the run of the whole program and its frame.

  The host part scales and casts the queries and casts the other four arrays; the call then goes over its 64 points. The
  inputs' blocks are what each point's buffers hold, before the body and after it; the output's buffer is handed round at
  contents of which nothing is said (`Bits/Body.lean`). None of the five argument arrays is written.
-/
module

public import proofs.«01_k».proof.Proof.Bits.Body
public import proofs.«01_k».proof.Proof.Gen.Kernel.Points
public import Idealize.ShloMosaic.Lib.Claim
public import Idealize.ShloMosaic.Lib.Pipeline.FrameBody
public import Idealize.ShloMosaic.Lib.Ring

@[expose] public section

set_option maxRecDepth 16384

noncomputable section

namespace Cert.Proof.AttnBits

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before the call -/

/-- What core `c`'s buffers hold once the host operations before the call have run. -/
abbrev V (c : Dev nD) (b : Ref sig .tc) : Buf (Elt F) ((c : Thread nD τ).loc b) :=
  StableHlo.after hostOps0 (fun b => m (c, b)) b

/-- None of those operations makes a buffer of its own. -/
theorem hostOps0_fresh : (hostOps0 : List (HloOp τ sig (Elt F))).Forall fun op => op.fresh = ∅ := by
  simp only [List.Forall]; repeat' constructor

set_option maxHeartbeats 800000 in
/-- The host part of the program runs up to the call and leaves the buffers at `V`. -/
theorem hmain : Pipeline.HMain (Ix := Unit) (Name := ℕ) (U := UR sig nD τ) (Lvl := ℕ) cfgs 0 defs₀ trips m (main (F := F)) (V m) :=
  Pipeline.hmain_prefix cfgs 0 defs₀ trips m main hostOps0 hostOps0_sub hostOps0_fresh main_chain

/-- A buffer none of whose names the host operations write is as launched. -/
theorem V_kept (c : Dev nD) (b : Ref sig .tc)
    (hb : ∀ r ∈ [main_v0, main_cst, main_v1, main_v2, main_v3, main_v4, main_v5, main_v6, main_v7, main_v8, main_v9, main_v10,
      main_v11, main_v12], b ≠ r) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (hb _ (by simp))))

/-- Window `w`'s block at point `t`, cut from its array as the call finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-! ## What the buffers hold, point by point -/

/-- Only the output (window 5) is handed round at unnamed contents. -/
def forgets0 : Fin 6 → Bool := fun w => w.val == 5

/-- The arrays are as the host part leaves them; an input's buffer holds its block after the body; the output's is unnamed. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_q (c : Dev nD) (t : Fin (cfg0 (F := F)).N) : (dats m 0 c).after 0 t = iblk m c 0 t := by dsimp only [dats]; rfl
theorem after_k (c : Dev nD) (t : Fin (cfg0 (F := F)).N) : (dats m 0 c).after 1 t = iblk m c 1 t := by dsimp only [dats]; rfl
theorem after_v (c : Dev nD) (t : Fin (cfg0 (F := F)).N) : (dats m 0 c).after 2 t = iblk m c 2 t := by dsimp only [dats]; rfl
theorem after_km (c : Dev nD) (t : Fin (cfg0 (F := F)).N) : (dats m 0 c).after 3 t = iblk m c 3 t := by dsimp only [dats]; rfl
theorem after_vm (c : Dev nD) (t : Fin (cfg0 (F := F)).N) : (dats m 0 c).after 4 t = iblk m c 4 t := by dsimp only [dats]; rfl

/-- The query buffer holds its block when the body starts. -/
theorem before_q (c : Dev nD) (t : Fin (cfg0 (F := F)).N) (d) : (dats m 0 c).before 0 t d = iblk m c 0 t :=
  ((dats m 0 c).before_in_eq_fetched 0 rfl (fun _ => rfl) (fun _ _ _ => rfl)
    (fun t => by rw [after_q]; unfold Dat.blockOf iblk; rw [A_eq]; try rfl) t d).trans
    (by unfold Dat.fetched Dat.blockOf iblk; rw [A_eq]; try rfl)
/-- The key buffer likewise, fetched at that point or an earlier one. -/
theorem before_k (c : Dev nD) (t : Fin (cfg0 (F := F)).N) (d) : (dats m 0 c).before 1 t d = iblk m c 1 t :=
  ((dats m 0 c).before_in_eq_fetched 1 rfl (fun _ => rfl) (fun _ _ _ => rfl)
    (fun t => by rw [after_k]; unfold Dat.blockOf iblk; rw [A_eq]; try rfl) t d).trans
    (by unfold Dat.fetched Dat.blockOf iblk; rw [A_eq]; try rfl)
/-- The value buffer likewise. -/
theorem before_v (c : Dev nD) (t : Fin (cfg0 (F := F)).N) (d) : (dats m 0 c).before 2 t d = iblk m c 2 t :=
  ((dats m 0 c).before_in_eq_fetched 2 rfl (fun _ => rfl) (fun _ _ _ => rfl)
    (fun t => by rw [after_v]; unfold Dat.blockOf iblk; rw [A_eq]; try rfl) t d).trans
    (by unfold Dat.fetched Dat.blockOf iblk; rw [A_eq]; try rfl)
/-- The extra key rows' buffer likewise. -/
theorem before_km (c : Dev nD) (t : Fin (cfg0 (F := F)).N) (d) : (dats m 0 c).before 3 t d = iblk m c 3 t :=
  ((dats m 0 c).before_in_eq_fetched 3 rfl (fun _ => rfl) (fun _ _ _ => rfl)
    (fun t => by rw [after_km]; unfold Dat.blockOf iblk; rw [A_eq]; try rfl) t d).trans
    (by unfold Dat.fetched Dat.blockOf iblk; rw [A_eq]; try rfl)
/-- The extra value rows' buffer likewise. -/
theorem before_vm (c : Dev nD) (t : Fin (cfg0 (F := F)).N) (d) : (dats m 0 c).before 4 t d = iblk m c 4 t :=
  ((dats m 0 c).before_in_eq_fetched 4 rfl (fun _ => rfl) (fun _ _ _ => rfl)
    (fun t => by rw [after_vm]; unfold Dat.blockOf iblk; rw [A_eq]; try rfl) t d).trans
    (by unfold Dat.fetched Dat.blockOf iblk; rw [A_eq]; try rfl)

/-! ## The body at a point -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d))

/-- and what it gives back. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d))

set_option maxHeartbeats 1600000 in
/-- The body at any point, by `sound_kernel` on the input blocks. -/
theorem sound_body (c : Dev nD) (t : Fin (cfg0 (F := F)).N) :
    bodyPre m c t ⊢ wp frame (wpE (defs₀ (F := F)) trips c none) Set.univ (bodyAt0 t) (fun _ => bodyPost m c t) := by
  unfold bodyPre bodyPost bodyAt0
  simp only [before_q, before_k, before_v, before_km, before_vm]
  rw [show (dats m 0 c).Φ t.succ = (dats m 0 c).Φ t.castSucc from rfl,
    show (dats m 0 c).owesAt () t.succ = (dats m 0 c).owesAt () t.castSucc from rfl,
    after_q, after_k, after_v, after_km, after_vm]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The call's body at point `t` is the kernel on that point's buffers. -/
theorem body_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) :
    BodyObligation (dats (F := F) m 0 c) (defs₀ (F := F)) trips () Set.univ forgets0 := fun t => by
  rw [bigSep_W0, bigSep_W0, body_row]
  exact triple_restated (sound_body m c t) rfl .rfl fun _ => .rfl

/-! ## The run and the frame -/

set_option backward.isDefEq.respectTransparency.types false in
/-- Every fair run of the program ends, with every array the call does not write as the host part left it, and every
    counter at zero. -/
theorem run_main : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ trips forgets0 m ρ main
    (hbody := fun c => (body_obligation m c).loose) (hshare := fun c => (dats m 0 c).share_full fun _ => rfl)
    (howed := fun _ _ => rfl) (V := V m) (hmain := hmain m) (hA := A_eq m) (hin := fun _ => .rfl) (hout := fun _ => .rfl)

/-- The frame: the run ends with the five argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (Pipeline.mem_restRefs_of main_arg0 (by decide) (show ∀ w : Fin 6, (spec0 w).arr.view.ref ≠ main_arg0 by decide))).trans
        (V_kept m c main_arg0 (by decide)),
      ((h.1 c).2 main_arg1 (Pipeline.mem_restRefs_of main_arg1 (by decide) (show ∀ w : Fin 6, (spec0 w).arr.view.ref ≠ main_arg1 by decide))).trans
        (V_kept m c main_arg1 (by decide)),
      ((h.1 c).2 main_arg2 (Pipeline.mem_restRefs_of main_arg2 (by decide) (show ∀ w : Fin 6, (spec0 w).arr.view.ref ≠ main_arg2 by decide))).trans
        (V_kept m c main_arg2 (by decide)),
      ((h.1 c).2 main_arg3 (Pipeline.mem_restRefs_of main_arg3 (by decide) (show ∀ w : Fin 6, (spec0 w).arr.view.ref ≠ main_arg3 by decide))).trans
        (V_kept m c main_arg3 (by decide)),
      ((h.1 c).2 main_arg4 (Pipeline.mem_restRefs_of main_arg4 (by decide) (show ∀ w : Fin 6, (spec0 w).arr.view.ref ≠ main_arg4 by decide))).trans
        (V_kept m c main_arg4 (by decide))⟩,
    h.2⟩) (run_main m ρ)

end Cert.Proof.AttnBits

end
-- ==== Proof.Attn.Step.lean ====
/-
  The attention kernel in its ideal reading: what one grid point computes, in its own words.

  A point (a batch entry and a tile of 256 queries) keeps, for each of the eight heads, a 256×128 accumulator and a 256×1
  running total of the softplus of the scores seen so far. It starts at the diagonal tile of keys, where only earlier keys
  count, goes on to the tiles before it, nearest first, and last adds the 16 extra rows. Two heads share 128 lanes: the
  queries of one head are kept and the other head's set to zero, and the lanes of the result are picked apart at the end.
-/
module

public import proofs.«01_k».proof.Proof.Gen.KernelIdeal.Skeleton
public import Idealize.ShloMosaic.Lib.Pipeline.FrameBody
public import Idealize.ShloMosaic.Lib.Ring
public import Idealize.ShloMosaic.Lib.Tactic

@[expose] public section

noncomputable section

namespace Cert.Proof.Attn

open Cert.KernelIdeal Cert.KernelIdeal.Gen

open Idealize.ShloMosaic Idealize.ShloMosaic.TcCoe

variable {F : FTy → Type} [FloatOps F] [Named F]

/-! ## One head on one tile of keys -/

/-- A head's accumulator and its running total. -/
abbrev Head (F : FTy → Type) : Type := FVec F S256x128 .f32 × FVec F S256x1 .f32

/-- `softplus`, as the kernel spells it: `max z 0 + log (1 + 2 ^ (-|z| / log 2))`. -/
def splus {s : Shape} (z : FVec F s .f32) : FVec F s .f32 :=
  addf (maximumf z (broadcast s (Scalar.ofBits .f32 0x00000000#32)))
    (log (addf (broadcast s (Scalar.ofBits .f32 0x3F800000#32))
      (exp2 (mulf (absf z) (broadcast s (Named.named κ "neg_log2e" 0xBFB8AA3B#32))))))

/-- The high part of a split into two shorter numbers, -/
def hi {s : Shape} (x : FVec F s .f32) : FVec F s .bf16 := truncf .bf16 x bitsLt_bf16_f32

/-- and what it leaves. -/
def lo {s : Shape} (x : FVec F s .f32) : FVec F s .bf16 :=
  truncf .bf16 (subf x (extf .f32 (hi x) bitsLt_bf16_f32)) bitsLt_bf16_f32

/-- The scores of 256 queries against 256 keys. -/
def score (qm kp : FVec F S256x128 .bf16) : FVec F S256x256 .f32 :=
  matmul dot_S256x128_S256x128_S256x256_1_1_0_0_n_n none qm kp (constant S256x256 .f32 0x00000000#32)

/-- The sums of a tile along each row from each column on. -/
def suffix (tri : FVec F S256x256 .bf16) (sp : FVec F S256x256 .f32) : FVec F S256x256 .f32 :=
  addf (matmul dot_S256x256_S256x256_S256x256_1_0_0_1_n_n none (hi sp) tri (constant S256x256 .f32 0x00000000#32))
    (matmul dot_S256x256_S256x256_S256x256_1_0_0_1_n_n none (lo sp) tri (constant S256x256 .f32 0x00000000#32))

/-- The weights of a tile: `exp (z - suffix - total)`. -/
def weight (z suf : FVec F S256x256 .f32) (c : FVec F S256x1 .f32) : FVec F S256x256 .f32 :=
  exp (subf (subf z suf) (broadcastTo S256x256 c broadcasts_S256x1_S256x256))

/-- The accumulator with a tile's weighted values added. -/
def outNext (out : FVec F S256x128 .f32) (a : FVec F S256x256 .f32) (vp : FVec F S256x128 .bf16) : FVec F S256x128 .f32 :=
  addf out (matmul dot_S256x256_S256x128_S256x128_1_0_0_1_n_n none (truncf .bf16 a bitsLt_bf16_f32) vp
    (constant S256x128 .f32 0x00000000#32))

/-- The total with a tile's row sums added. -/
def cNext (c : FVec F S256x1 .f32) (suf : FVec F S256x256 .f32) : FVec F S256x1 .f32 :=
  addf c (extractStridedSlice S256x1 ![0, 0] suf slices_S256x256_o0_0_S256x1)

/-- A tile's entries where the key is before the query, zero elsewhere. -/
def past (x : FVec F S256x256 .f32) : FVec F S256x256 .f32 :=
  select k0_pay83 x (broadcast S256x256 (Scalar.ofBits .f32 0x00000000#32))

/-- One head on an earlier tile. -/
def tileNext (tri : FVec F S256x256 .bf16) (qm kp vp : FVec F S256x128 .bf16) (s : Head F) : Head F :=
  (outNext s.1 (weight (score qm kp) (suffix tri (splus (score qm kp))) s.2) vp,
    cNext s.2 (suffix tri (splus (score qm kp))))

/-- One head on the diagonal tile, from nothing. -/
def diagNext (tri : FVec F S256x256 .bf16) (qm kp vp : FVec F S256x128 .bf16) : Head F :=
  (outNext k0_pay85 (past (weight (score qm kp) (suffix tri (past (splus (score qm kp)))) k0_pay86)) vp,
    cNext k0_pay86 (suffix tri (past (splus (score qm kp)))))

/-- The least of the eight totals over the 256 queries. -/
def least (c : Fin 8 → FVec F S256x1 .f32) : F .f32 :=
  extractAt ![0, 0, 0] (shapeCast S1x1x1 (multiReduction .minimumf [1, 2] S1 (shapeCast S1x256x1
    (minimumf (minimumf (minimumf (minimumf (minimumf (minimumf (minimumf (c 0) (c 1)) (c 2)) (c 3)) (c 4)) (c 5)) (c 6)) (c 7))
    shapeCasts_S256x1_S1x256x1) 0x7F800000#32 reduces_S1x256x1_S1 (.inl rfl) rfl) shapeCasts_S1_S1x1x1) inpos_S1x1x1_p0_0_0

/-! ## The heads' lanes -/

/-- The 128 lanes in which head `h` lies, cut out of a tile. -/
def pairOf (x : FVec F S256x512 .bf16) : Fin 8 → FVec F S256x128 .bf16 :=
  ![extractStridedSlice S256x128 ![0, 0] x slices_S256x512_o0_0_S256x128,
    extractStridedSlice S256x128 ![0, 0] x slices_S256x512_o0_0_S256x128,
    extractStridedSlice S256x128 ![0, 128] x slices_S256x512_o0_128_S256x128,
    extractStridedSlice S256x128 ![0, 128] x slices_S256x512_o0_128_S256x128,
    extractStridedSlice S256x128 ![0, 256] x slices_S256x512_o0_256_S256x128,
    extractStridedSlice S256x128 ![0, 256] x slices_S256x512_o0_256_S256x128,
    extractStridedSlice S256x128 ![0, 384] x slices_S256x512_o0_384_S256x128,
    extractStridedSlice S256x128 ![0, 384] x slices_S256x512_o0_384_S256x128]

/-- The 128 lanes from lane `128 p` on, of a query tile, and of an output tile, -/
abbrev lane0 : Rect S1x256x512 := Rect.unit (s := S1x256x512) ![0, 0, 0] S1x256x128.size inb_S1x256x512_S1x256x128_0_0_0
abbrev lane1 : Rect S1x256x512 := Rect.unit (s := S1x256x512) ![0, 0, 128] S1x256x128.size inb_S1x256x512_S1x256x128_0_0_128
abbrev lane2 : Rect S1x256x512 := Rect.unit (s := S1x256x512) ![0, 0, 256] S1x256x128.size inb_S1x256x512_S1x256x128_0_0_256
abbrev lane3 : Rect S1x256x512 := Rect.unit (s := S1x256x512) ![0, 0, 384] S1x256x128.size inb_S1x256x512_S1x256x128_0_0_384
/-- and of the 16 extra rows. -/
abbrev mlane0 : Rect S16x512 := Rect.unit (s := S16x512) ![0, 0] S16x128.size inb_S16x512_S16x128_0_0
abbrev mlane1 : Rect S16x512 := Rect.unit (s := S16x512) ![0, 128] S16x128.size inb_S16x512_S16x128_0_128
abbrev mlane2 : Rect S16x512 := Rect.unit (s := S16x512) ![0, 256] S16x128.size inb_S16x512_S16x128_0_256
abbrev mlane3 : Rect S16x512 := Rect.unit (s := S16x512) ![0, 384] S16x128.size inb_S16x512_S16x128_0_384

/-- A query tile's lanes under a mask, zero elsewhere. -/
def keep (mask : IVec S1x128 1) (x : Vec F S1x256x128 .bf16) : FVec F S256x128 .bf16 :=
  select (broadcastTo S256x128 (shapeCast S1x128 mask shapeCasts_S1x128_S1x128) broadcasts_S1x128_S256x128)
    (shapeCast S256x128 x shapeCasts_S1x256x128_S256x128) (broadcast S256x128 (Scalar.ofBits .bf16 0x0000#16))

/-- The mask of the 64 lanes of an odd head; an even head's is `k0_pay70`. -/
def oddLanes : IVec S1x128 1 := xori k0_pay70 (constantI S1x128 1 1#1)

/-- Each head's queries, the other head's of its pair set to zero. -/
def qOf (q : Vec F S1x256x512 .bf16) : Fin 8 → FVec F S256x128 .bf16 :=
  ![keep k0_pay70 (View.ld q lane0), keep oddLanes (View.ld q lane0),
    keep k0_pay70 (View.ld q lane1), keep oddLanes (View.ld q lane1),
    keep k0_pay70 (View.ld q lane2), keep oddLanes (View.ld q lane2),
    keep k0_pay70 (View.ld q lane3), keep oddLanes (View.ld q lane3)]

/-- The 16 extra rows' lanes of each head. -/
def metaOf (x : Vec F S16x512 .bf16) : Fin 8 → Vec F S16x128 .bf16 :=
  ![View.ld x mlane0, View.ld x mlane0, View.ld x mlane1, View.ld x mlane1,
    View.ld x mlane2, View.ld x mlane2, View.ld x mlane3, View.ld x mlane3]

/-! ## The tiles -/

/-- The diagonal tile's rows, -/
def diagTile (i : grid0.Coords) (x : Vec F S1x2048x512 .bf16) : FVec F S256x512 .bf16 :=
  shapeCast S256x512 (View.ld x (Rect.unit (s := S1x2048x512) (k0_off1 i) S1x256x512.size (k0_off1_inb i)))
    shapeCasts_S1x256x512_S256x512

/-- and the rows of the tile `j` before it (where that is a tile). -/
def tileAt (i : grid0.Coords) (j : BitVec 32) (x : Vec F S1x2048x512 .bf16) : FVec F S256x512 .bf16 :=
  if h : k0_chk1 i j then
    shapeCast S256x512 (View.ld x (Rect.unit (s := S1x2048x512) (k0_off2 i j) S1x256x512.size (k0_off2_inb i j h)))
      shapeCasts_S1x256x512_S256x512
  else diagTile i x

/-! ## The loop -/

/-- A record's heads, -/
def headOf (a : Cc0While1 F) : Fin 8 → Head F :=
  ![(a.arg11, a.arg12), (a.arg13, a.arg14), (a.arg15, a.arg16), (a.arg17, a.arg18),
    (a.arg19, a.arg20), (a.arg21, a.arg22), (a.arg23, a.arg24), (a.arg25, a.arg26)]

/-- its queries, -/
def queryOf (a : Cc0While1 F) : Fin 8 → FVec F S256x128 .bf16 :=
  ![a.v8, a.v15, a.v21, a.v28, a.v34, a.v41, a.v47, a.v54]

/-- and the record at another counter and other heads. -/
def withHeads (a : Cc0While1 F) (j : BitVec 32) (H : Fin 8 → Head F) : Cc0While1 F :=
  { a with
    arg9 := j, arg10 := least fun h => (H h).2
    arg11 := (H 0).1, arg12 := (H 0).2, arg13 := (H 1).1, arg14 := (H 1).2
    arg15 := (H 2).1, arg16 := (H 2).2, arg17 := (H 3).1, arg18 := (H 3).2
    arg19 := (H 4).1, arg20 := (H 4).2, arg21 := (H 5).1, arg22 := (H 5).2
    arg23 := (H 6).1, arg24 := (H 6).2, arg25 := (H 7).1, arg26 := (H 7).2 }

/-- The heads after one trip over a tile's keys and values, -/
def headsNext (a : Cc0While1 F) (kt vt : FVec F S256x512 .bf16) (h : Fin 8) : Head F :=
  tileNext a.v61 (queryOf a h) (pairOf kt h) (pairOf vt h) (headOf a h)

/-- the record after it, -/
def nextOn (a : Cc0While1 F) (kt vt : FVec F S256x512 .bf16) : Cc0While1 F :=
  withHeads a (Scalar.addi a.arg9 1#32) (headsNext a kt vt)

/-- the tile being the one the record's counter names, -/
def next (a : Cc0While1 F) (k v : Vec F S1x2048x512 .bf16) : Cc0While1 F :=
  nextOn a (tileAt a.i a.arg9 k) (tileAt a.i a.arg9 v)

/-- after `n` trips, -/
def afterTrips (k v : Vec F S1x2048x512 .bf16) : ℕ → Cc0While1 F → Cc0While1 F
  | 0, a => a
  | n + 1, a => afterTrips k v n (next a k v)

/-- and what is returned from a record. -/
def resultOf (a : Cc0While1 F) : (Λ₀ F).Result 1 :=
  (a.arg9, a.arg10, a.arg11, a.arg12, a.arg13, a.arg14, a.arg15, a.arg16, a.arg17, a.arg18, a.arg19, a.arg20, a.arg21,
    a.arg22, a.arg23, a.arg24, a.arg25, a.arg26)

/-- The record the loop is entered with, its heads those of the diagonal tile. -/
def start (i : grid0.Coords) (arg4 : Memref sig .tc .vmem S1x2048x512 .bf16) (harg4 : arg4.IsWhole)
    (arg5 : Memref sig .tc .vmem S1x2048x512 .bf16) (harg5 : arg5.IsWhole)
    (q : Vec F S1x256x512 .bf16) (k v : Vec F S1x2048x512 .bf16) : Cc0While1 F :=
  withHeads
    { i := i, arg4 := arg4, harg4 := harg4, arg5 := arg5, harg5 := harg5
      v8 := qOf q 0, v15 := qOf q 1, v21 := qOf q 2, v28 := qOf q 3, v34 := qOf q 4, v41 := qOf q 5, v47 := qOf q 6, v54 := qOf q 7
      v61 := k0_pay82, arg9 := 1#32, arg10 := Scalar.ofBits .f32 0x00000000#32
      arg11 := k0_pay85, arg12 := k0_pay86, arg13 := k0_pay85, arg14 := k0_pay86
      arg15 := k0_pay85, arg16 := k0_pay86, arg17 := k0_pay85, arg18 := k0_pay86
      arg19 := k0_pay85, arg20 := k0_pay86, arg21 := k0_pay85, arg22 := k0_pay86
      arg23 := k0_pay85, arg24 := k0_pay86, arg25 := k0_pay85, arg26 := k0_pay86 }
    1#32 fun h => diagNext k0_pay82 (qOf q h) (pairOf (diagTile i k) h) (pairOf (diagTile i v) h)

/-! ## The extra rows and the output tile -/

/-- The scores of the 16 extra rows against 256 queries, rows first. -/
def metaScore (km : Vec F S16x128 .bf16) (qm : FVec F S256x128 .bf16) : FVec F S16x256 .f32 :=
  matmul dot_S16x128_S256x128_S16x256_1_1_0_0_n_n none (shapeCast S16x128 km shapeCasts_S16x128_S16x128 : FVec F S16x128 .bf16) qm
    (constant S16x256 .f32 0x00000000#32)

/-- The sums of the 16 rows from each row on. -/
def metaSuffix (sp : FVec F S16x256 .f32) : FVec F S16x256 .f32 :=
  addf (matmul dot_S16x16_S16x256_S16x256_1_0_0_1_n_n none k0_pay84 (hi sp) (constant S16x256 .f32 0x00000000#32))
    (matmul dot_S16x16_S16x256_S16x256_1_0_0_1_n_n none k0_pay84 (lo sp) (constant S16x256 .f32 0x00000000#32))

/-- The 16 rows' weights. -/
def metaWeight (z : FVec F S16x256 .f32) : FVec F S16x256 .bf16 :=
  truncf .bf16 (exp (subf z (metaSuffix (splus z)))) bitsLt_bf16_f32

/-- A head's accumulator with the extra rows' weighted values added, each query's scaled by `exp (- total)`. -/
def withMeta (qm : FVec F S256x128 .bf16) (km vm : Vec F S16x128 .bf16) (s : Head F) : FVec F S256x128 .f32 :=
  addf s.1 (mulf
    (broadcastTo S256x128 (exp (subf (broadcast S256x1 (Scalar.ofBits .f32 0x00000000#32)) s.2)) broadcasts_S256x1_S256x128)
    (matmul dot_S16x256_S16x128_S256x128_0_0_1_1_n_n none (metaWeight (metaScore km qm))
      (shapeCast S16x128 vm shapeCasts_S16x128_S16x128 : FVec F S16x128 .bf16) (constant S256x128 .f32 0x00000000#32)))

/-- Two heads' accumulators put together: the first 64 lanes of one, the last 64 of the other. -/
def mergePair (e o : FVec F S256x128 .f32) : FVec F S1x256x128 .bf16 :=
  shapeCast S1x256x128 (truncf .bf16 (select
    (broadcastTo S256x128 (shapeCast S1x128 k0_pay70 shapeCasts_S1x128_S1x128) broadcasts_S1x128_S256x128) e o)
    bitsLt_bf16_f32) shapeCasts_S256x128_S1x256x128

/-- The heads when the loop ends, `(i 2)` tiles before the diagonal one having been taken. -/
def lastHeads (i : grid0.Coords) (arg4 : Memref sig .tc .vmem S1x2048x512 .bf16) (harg4 : arg4.IsWhole)
    (arg5 : Memref sig .tc .vmem S1x2048x512 .bf16) (harg5 : arg5.IsWhole)
    (q : Vec F S1x256x512 .bf16) (k v : Vec F S1x2048x512 .bf16) : Fin 8 → Head F :=
  headOf (afterTrips k v (i 2).val (start i arg4 harg4 arg5 harg5 q k v))

/-- The finished accumulators. -/
def finished (q : Vec F S1x256x512 .bf16) (km vm : Vec F S16x512 .bf16) (H : Fin 8 → Head F) (h : Fin 8) : FVec F S256x128 .f32 :=
  withMeta (qOf q h) (metaOf km h) (metaOf vm h) (H h)

/-- The output tile, two heads at a time. -/
def outTile (q : Vec F S1x256x512 .bf16) (km vm : Vec F S16x512 .bf16) (H : Fin 8 → Head F) : Vec F S1x256x512 .bf16 :=
  View.canon
    [⟨lane3, mergePair (finished q km vm H 6) (finished q km vm H 7)⟩,
      ⟨lane2, mergePair (finished q km vm H 4) (finished q km vm H 5)⟩,
      ⟨lane1, mergePair (finished q km vm H 2) (finished q km vm H 3)⟩,
      ⟨lane0, mergePair (finished q km vm H 0) (finished q km vm H 1)⟩]

end Cert.Proof.Attn

end
-- ==== Proof.Attn.Loop.lean ====
/-
  The attention kernel in its ideal reading: its loop over the past key tiles.

  The loop stops when its counter passes the query tile's number or when the least running total passes the bound named
  `underflow`. Where no value passes that bound (it is `+∞` over the reals) the loop makes exactly one trip per past tile;
  so, holding the key and value buffers, it hands them back and returns the record after that many trips.
-/
module

public import proofs.«01_k».proof.Proof.Attn.Step
public import proofs.«01_k».proof.Proof.Gen.KernelIdeal.Launch
public import proofs.«01_k».proof.Proof.Gen.KernelIdeal.Points

@[expose] public section

noncomputable section

namespace Cert.Proof.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- No value passes the bound named `underflow`. -/
class Unbounded (F : FTy → Type) [FloatOps F] [Named F] : Prop where
  le : ∀ x : F .f32, Scalar.cmpf .ole x (Named.named κ "underflow" 0x43160000#32) = 1#1
  not_gt : ∀ x : F .f32, Scalar.cmpf .ogt x (Named.named κ "underflow" 0x43160000#32) = 0#1

variable {F : FTy → Type} [FloatOps F] [Named F]

local notation "𝕄" => MT nD τ sig Unit (Elt F) ℕ (UR sig nD τ) ℕ

/-- The loop is entered at the number of trips it has still to make. -/
abbrev trips : Variants := Variants.nat

/-! ## The counter's words -/

/-- At a tile not past the query tile the first test holds, -/
theorem sle_upto : ∀ q < 8, ∀ j ≤ q, Scalar.cmpi .sle (BitVec.ofNat 32 j) (BitVec.ofNat 32 q) = 1#1 := by decide

/-- past it the test fails. -/
theorem sle_past : ∀ q < 8, Scalar.cmpi .sle (BitVec.ofNat 32 (q + 1)) (BitVec.ofNat 32 q) = 0#1 := by decide

theorem andi_zero : ∀ x : BitVec 1, ¬Scalar.andi 0#1 x = 1#1 := by decide

theorem andi_ones : Scalar.andi (1#1) (1#1) = 1#1 := by decide

/-- One trip on. -/
theorem addi_one : ∀ j < 9, Scalar.addi (BitVec.ofNat 32 j) 1#32 = BitVec.ofNat 32 (j + 1) := by decide

/-- The tile `q - j` starts at row `256 (q - j)`. -/
theorem tile_row : ∀ q < 8, ∀ j ≤ q,
    (Scalar.muli (Scalar.subi (BitVec.ofNat 32 q) (BitVec.ofNat 32 j)) 256#32).toNat = 256 * (q - j)
      ∧ (Scalar.indexCast (Scalar.muli (Scalar.subi (BitVec.ofNat 32 q) (BitVec.ofNat 32 j)) 256#32)).toNat = 256 * (q - j) := by
  decide

/-- What the body assumes of the counter holds at every trip. -/
theorem chk_of_le (i : grid0.Coords) (j : ℕ) (hj : j ≤ (i 2).val) : k0_chk1 i (BitVec.ofNat 32 j) := by
  have hi : (i 2).val < 8 := (i 2).isLt
  obtain ⟨h1, h2⟩ := tile_row (i 2).val hi j hj
  refine ⟨?_, fun a => ?_⟩
  · show 256 ∣ (Scalar.muli (Scalar.subi (BitVec.ofNat 32 (i 2).val) (BitVec.ofNat 32 j)) 256#32).toNat
    rw [h1]; exact ⟨_, rfl⟩
  · fin_cases a
    · show 0 + 1 ≤ 1; decide
    · show (Scalar.indexCast (Scalar.muli (Scalar.subi (BitVec.ofNat 32 (i 2).val) (BitVec.ofNat 32 j)) 256#32)).toNat + 256 ≤ 2048
      rw [h2]; omega
    · show 0 + 512 ≤ 512; decide

/-! ## The specification -/

/-- Core `c` holds the key and value buffers of a loop's record, at contents that read `k` and `v`. -/
def held (c : Dev nD) (a : Cc0While1 F) (k v : Vec F S1x2048x512 .bf16) : sProp 𝕄 :=
  iprop(owns (c : Thread nD τ) a.arg4 fullShare k ∗ owns (c : Thread nD τ) a.arg5 fullShare v)

/-- The loop hands the two buffers back and returns the record's values after `n` trips. -/
def spec (c : Dev nD) (n : ℕ) (a : Cc0While1 F) (k v : Vec F S1x2048x512 .bf16) : sWPT 𝕄 ((Λ₀ F).Result 1) := do
  sWPT.consume (held c a k v)
  sWPT.produce (held c a k v)
  pure (resultOf (afterTrips k v n a))

theorem spec_apply (c : Dev nD) (n : ℕ) (a : Cc0While1 F) (k v : Vec F S1x2048x512 .bf16) (K : (Λ₀ F).Result 1 → sProp 𝕄) :
    spec c n a k v K = iprop(held c a k v ∗ (held c a k v -∗ K (resultOf (afterTrips k v n a)))) := rfl

/-- The tile a record names, where it is one. -/
theorem tileAt_of (i : grid0.Coords) (j : BitVec 32) (h : k0_chk1 i j) (x : Vec F S1x2048x512 .bf16) :
    tileAt i j x = shapeCast S256x512
      (View.ld x (Rect.unit (s := S1x2048x512) (k0_off2 i j) S1x256x512.size (k0_off2_inb i j h)))
      shapeCasts_S1x256x512_S256x512 := dif_pos h

variable [Unbounded F]

set_option maxHeartbeats 4000000 in
/-- A record's function meets the specification: by induction on the trips left. -/
theorem spec_le (c : Dev nD) (E : Set ℕ) (k v : Vec F S1x2048x512 .bf16) :
    ∀ n (a : Cc0While1 F) (j : ℕ), a.arg9 = BitVec.ofNat 32 j → j + n = (a.i 2).val + 1 → ∀ K, spec c n a k v K
      ⊢ wp frame (wpE (defs₀ (F := F)) trips (c : Thread nD τ) (some n)) E (defs₀ (F := F) .tc 1 a) K := by
  intro n
  induction n with
  | zero =>
    rintro ⟨i, arg4, harg4, arg5, harg5, v8, v15, v21, v28, v34, v41, v47, v54, v61, arg9, arg10, arg11, arg12, arg13,
      arg14, arg15, arg16, arg17, arg18, arg19, arg20, arg21, arg22, arg23, arg24, arg25, arg26⟩ j hj hn K
    dsimp only at hj hn
    rw [spec_apply]; dsimp only [afterTrips, resultOf]
    show _ ⊢ wp frame (wpE (defs₀ (F := F)) trips (c : Thread nD τ) (some 0)) E
      (cc0_while1 i arg4 harg4 arg5 harg5 v8 v15 v21 v28 v34 v41 v47 v54 v61 arg9 arg10 arg11 arg12 arg13 arg14 arg15
        arg16 arg17 arg18 arg19 arg20 arg21 arg22 arg23 arg24 arg25 arg26) K
    simp only [cc0_while1_eq_skeleton]; unfold cc0_while1_skel
    have hstop : Scalar.cmpi .sle arg9 (BitVec.ofNat 32 (i 2).val) = 0#1 := by
      rw [hj, show j = (i 2).val + 1 by omega]; exact sle_past _ (i 2).isLt
    simp only [hstop, if_neg (andi_zero _), Prog.pure_eq_ret]
    iintro ⟨H, Hk⟩
    rw [wp_ret]; imodintro
    iapply Hk
    iexact H
  | succ n ih =>
    rintro ⟨i, arg4, harg4, arg5, harg5, v8, v15, v21, v28, v34, v41, v47, v54, v61, arg9, arg10, arg11, arg12, arg13,
      arg14, arg15, arg16, arg17, arg18, arg19, arg20, arg21, arg22, arg23, arg24, arg25, arg26⟩ j hj hn K
    dsimp only at hj hn
    have hlt : (i 2).val < 8 := (i 2).isLt
    have hchk : k0_chk1 i arg9 := by rw [hj]; exact chk_of_le i j (by omega)
    have hnext : Scalar.addi arg9 1#32 = BitVec.ofNat 32 (j + 1) := by rw [hj]; exact addi_one j (by omega)
    have hgo : Scalar.andi (Scalar.cmpi .sle arg9 (BitVec.ofNat 32 (i 2).val))
        (Scalar.cmpf .ole arg10 (Named.named κ "underflow" 0x43160000#32)) = 1#1 := by
      rw [hj, sle_upto _ hlt j (by omega), Unbounded.le]; exact andi_ones
    rw [spec_apply]
    show _ ⊢ wp frame (wpE (defs₀ (F := F)) trips (c : Thread nD τ) (some (n + 1))) E
      (cc0_while1 i arg4 harg4 arg5 harg5 v8 v15 v21 v28 v34 v41 v47 v54 v61 arg9 arg10 arg11 arg12 arg13 arg14 arg15
        arg16 arg17 arg18 arg19 arg20 arg21 arg22 arg23 arg24 arg25 arg26) K
    rw [show afterTrips k v (n + 1) _ = afterTrips k v n (next _ k v) from rfl]
    unfold next
    rw [tileAt_of i arg9 hchk k, tileAt_of i arg9 hchk v]
    generalize ha : (Cc0While1.mk i arg4 harg4 arg5 harg5 v8 v15 v21 v28 v34 v41 v47 v54 v61 arg9 arg10 arg11 arg12 arg13 arg14
      arg15 arg16 arg17 arg18 arg19 arg20 arg21 arg22 arg23 arg24 arg25 arg26) = a
    simp only [cc0_while1_eq_skeleton]; unfold cc0_while1_skel
    simp only [hgo, ↓reduceIte, k0_part15_eq_skeleton, k0_part16_eq_skeleton, k0_part17_eq_skeleton,
      k0_part18_eq_skeleton, k0_part19_eq_skeleton]
    have hheld : held c a k v = held c (Cc0While1.mk i arg4 harg4 arg5 harg5 v8 v15 v21 v28 v34 v41 v47 v54 v61 arg9 arg10 arg11
      arg12 arg13 arg14 arg15 arg16 arg17 arg18 arg19 arg20 arg21 arg22 arg23 arg24 arg25 arg26) k v := by rw [ha]
    rw [hheld]
    unfold held owns
    iintro ⟨⟨⟨%fk, %hk, Hkb⟩, ⟨%fv, %hv, Hvb⟩⟩, Hk⟩
    cases hk; cases hv
    sl_exec
    subst ha
    have hih := ih (nextOn (Cc0While1.mk i arg4 harg4 arg5 harg5 v8 v15 v21 v28 v34 v41 v47 v54 v61 arg9 arg10 arg11 arg12 arg13 arg14
      arg15 arg16 arg17 arg18 arg19 arg20 arg21 arg22 arg23 arg24 arg25 arg26) (shapeCast S256x512
      (View.ld (View.read (Elt F) arg4.view fk) (Rect.unit (s := S1x2048x512) (k0_off2 i arg9) S1x256x512.size (k0_off2_inb i arg9 hchk)))
      shapeCasts_S1x256x512_S256x512) (shapeCast S256x512
      (View.ld (View.read (Elt F) arg5.view fv) (Rect.unit (s := S1x2048x512) (k0_off2 i arg9) S1x256x512.size (k0_off2_inb i arg9 hchk)))
      shapeCasts_S1x256x512_S256x512)) (j + 1) (by exact hnext) (by show j + 1 + n = (i 2).val + 1; omega)
    iapply (wp_call_spec trips (c : Thread nD τ) (some (n + 1)) E _ n
      (fun u hu => by cases hu; exact Nat.lt_succ_self n) hih)
    rw [spec_apply]; unfold held owns
    isplitl [Hkb Hvb]
    · isplitl [Hkb]
      · iexists fk; isplitr; · ipureintro; rfl
        iexact Hkb
      iexists fv; isplitr; · ipureintro; rfl
      iexact Hvb
    iintro H
    rw [wp_ret]; imodintro
    iapply Hk
    iexact H

end Cert.Proof.Attn

end
-- ==== Proof.Attn.Heads.lean ====
/-
  The attention kernel in its ideal reading: the heads after each tile, free of the loop's record.
-/
module

public import proofs.«01_k».proof.Proof.Attn.Loop

@[expose] public section

noncomputable section

namespace Cert.Proof.Attn

open Cert.KernelIdeal Cert.KernelIdeal.Gen

open Idealize.ShloMosaic Idealize.ShloMosaic.TcCoe

variable {F : FTy → Type} [FloatOps F] [Named F]

/-- The heads after the diagonal tile and `n` tiles before it. -/
def heads (i : grid0.Coords) (q : Vec F S1x256x512 .bf16) (k v : Vec F S1x2048x512 .bf16) : ℕ → Fin 8 → Head F
  | 0, h => diagNext k0_pay82 (qOf q h) (pairOf (diagTile i k) h) (pairOf (diagTile i v) h)
  | n + 1, h => tileNext k0_pay82 (qOf q h) (pairOf (tileAt i (BitVec.ofNat 32 (n + 1)) k) h)
      (pairOf (tileAt i (BitVec.ofNat 32 (n + 1)) v) h) (heads i q k v n h)

theorem headOf_withHeads (a : Cc0While1 F) (j : BitVec 32) (H : Fin 8 → Head F) : headOf (withHeads a j H) = H := by
  funext h; fin_cases h <;> rfl

/-- A record with the heads after `m` tiles has those after `m + n` when it has made `n` trips. -/
theorem headOf_afterTrips (i : grid0.Coords) (q : Vec F S1x256x512 .bf16) (k v : Vec F S1x2048x512 .bf16) :
    ∀ (n m : ℕ) (a : Cc0While1 F), m + n < 8 → a.i = i → a.v61 = k0_pay82 → queryOf a = qOf q →
      a.arg9 = BitVec.ofNat 32 (m + 1) → headOf a = heads i q k v m → headOf (afterTrips k v n a) = heads i q k v (m + n) := by
  intro n
  induction n with
  | zero => intro m a _ _ _ _ _ hH; exact hH
  | succ n ih =>
    intro m a hmn hi ht hq hj hH
    rw [show m + (n + 1) = m + 1 + n by omega]
    refine ih (m + 1) (next a k v) (by omega) hi ht hq ?_ ?_
    · show Scalar.addi a.arg9 1#32 = _
      rw [hj]; exact addi_one (m + 1) (by omega)
    · show headOf (withHeads a _ _) = _
      rw [headOf_withHeads]
      funext h
      show tileNext a.v61 (queryOf a h) (pairOf (tileAt a.i a.arg9 k) h) (pairOf (tileAt a.i a.arg9 v) h) (headOf a h) = _
      rw [ht, hq, hi, hj, hH]
      rfl

/-- The heads when the loop ends. -/
theorem lastHeads_eq (i : grid0.Coords) (arg4 : Memref sig .tc .vmem S1x2048x512 .bf16) (harg4 : arg4.IsWhole)
    (arg5 : Memref sig .tc .vmem S1x2048x512 .bf16) (harg5 : arg5.IsWhole)
    (q : Vec F S1x256x512 .bf16) (k v : Vec F S1x2048x512 .bf16) :
    lastHeads i arg4 harg4 arg5 harg5 q k v = heads i q k v (i 2).val := by
  unfold lastHeads
  have hi : (i 2).val < 8 := (i 2).isLt
  have hq : queryOf (start i arg4 harg4 arg5 harg5 q k v) = qOf q := by
    unfold start queryOf withHeads
    dsimp only
    generalize qOf q = Q
    funext h; fin_cases h <;> rfl
  have hH : headOf (start i arg4 harg4 arg5 harg5 q k v) = heads i q k v 0 := by
    unfold start; rw [headOf_withHeads]; funext h; rw [heads]
  have hj : (start i arg4 harg4 arg5 harg5 q k v).arg9 = BitVec.ofNat 32 (0 + 1) := by
    unfold start withHeads; dsimp only
  have ht : (start i arg4 harg4 arg5 harg5 q k v).v61 = k0_pay82 := by
    unfold start withHeads; dsimp only
  have hii : (start i arg4 harg4 arg5 harg5 q k v).i = i := by
    unfold start withHeads; dsimp only
  generalize start i arg4 harg4 arg5 harg5 q k v = a at hq hH hj ht hii
  have := headOf_afterTrips i q k v (i 2).val 0 a (by omega) hii ht hq hj hH
  rwa [Nat.zero_add] at this

end Cert.Proof.Attn

end
-- ==== Proof.Attn.Body.lean ====
/-
  The attention kernel in its ideal reading: one call of its body, with what it leaves in the output's buffer.

  The body loads the queries, takes the diagonal tile, runs the loop, and writes the output tile in four pieces of 128
  lanes. Where no running total passes the bound named `underflow`, the first of the two closing tests fails and the
  second succeeds, so the extra rows are always added.
-/
module

public import proofs.«01_k».proof.Proof.Attn.Heads

@[expose] public section

set_option maxRecDepth 16384

noncomputable section

namespace Cert.Proof.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The four pieces of 128 lanes are the whole output tile. -/
theorem lanes_cover (p0 p1 p2 p3 : Vec F S1x256x128 .bf16) (y : S1x256x512.Idx) :
    ∃ pc ∈ ([⟨lane3, p3⟩, ⟨lane2, p2⟩, ⟨lane1, p1⟩, ⟨lane0, p0⟩] : List (View.Piece (Elt F) S1x256x512 .bf16)), y ∈ pc.1.set :=
  View.cover_of_tiled _ ![1, 256, 128] (by rfl) y

/-- The two closing tests' words. -/
theorem ne_zero_of_zero : ¬Scalar.cmpi .ne (Scalar.extui (0#1 : BitVec 1) : BitVec 32) 0#32 = 1#1 := by decide
theorem ne_zero_of_one : Scalar.cmpi .ne (Scalar.extui (1#1 : BitVec 1) : BitVec 32) 0#32 = 1#1 := by decide

variable [Unbounded F]

set_option maxHeartbeats 8000000 in
/-- One call of the body on whole staging buffers: the inputs' come back as they were, the output's holds `outTile`. -/
theorem sound_kernel (c : Dev nD) (E : Set ℕ) (i : grid0.Coords)
    (arg3 : Memref sig .tc .vmem S1x256x512 .bf16) (harg3 : arg3.IsWhole)
    (arg4 : Memref sig .tc .vmem S1x2048x512 .bf16) (harg4 : arg4.IsWhole)
    (arg5 : Memref sig .tc .vmem S1x2048x512 .bf16) (harg5 : arg5.IsWhole)
    (arg6 : Memref sig .tc .vmem S16x512 .bf16) (harg6 : arg6.IsWhole)
    (arg7 : Memref sig .tc .vmem S16x512 .bf16) (harg7 : arg7.IsWhole)
    (arg8 : Memref sig .tc .vmem S1x256x512 .bf16) (harg8 : arg8.IsWhole)
    (q : Vec F S1x256x512 .bf16) (k v : Vec F S1x2048x512 .bf16) (km vm : Vec F S16x512 .bf16) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare km ∗ owns (c : Thread nD τ) arg7 fullShare vm
        ∗ (∃ d, owns (c : Thread nD τ) arg8 fullShare d)
        ∗ (iprop(owns (c : Thread nD τ) arg3 fullShare q ∗ owns (c : Thread nD τ) arg4 fullShare k ∗ owns (c : Thread nD τ) arg5 fullShare v
            ∗ owns (c : Thread nD τ) arg6 fullShare km ∗ owns (c : Thread nD τ) arg7 fullShare vm
            ∗ owns (c : Thread nD τ) arg8 fullShare (outTile q km vm (heads i q k v (i 2).val))) -∗ K ⟨⟩))
      ⊢ wp frame (wpE (defs₀ (F := F)) trips c none) E
          (cc0__attn_kernel i arg3 harg3 arg4 harg4 arg5 harg5 arg6 harg6 arg7 harg7 arg8 harg8) K := by
  rw [← lastHeads_eq i arg4 harg4 arg5 harg5 q k v]
  simp only [cc0__attn_kernel_eq_skeleton]; unfold cc0__attn_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  iintro ⟨Hq, Hkb, Hvb, Hkm, Hvm, ⟨%d, Hd⟩, Hk⟩
  unfold owns
  icases Hq with ⟨%fq, %hq, Hq⟩
  icases Hkb with ⟨%fk, %hk, Hkb⟩
  icases Hvb with ⟨%fv, %hv, Hvb⟩
  icases Hkm with ⟨%fkm, %hkm, Hkm⟩
  icases Hvm with ⟨%fvm, %hvm, Hvm⟩
  icases Hd with ⟨%fd, -, Hd⟩
  cases hq; cases hk; cases hv; cases hkm; cases hvm
  sl_exec
  have hloop := spec_le c E (View.read (Elt F) arg4.view fk) (View.read (Elt F) arg5.view fv) (i 2).val
    (start i arg4 harg4 arg5 harg5 (View.read (Elt F) arg3.view fq) (View.read (Elt F) arg4.view fk) (View.read (Elt F) arg5.view fv))
    1 rfl (show 1 + (i 2).val = (i 2).val + 1 by omega)
  iapply (wp_call_spec trips (c : Thread nD τ) none E _ (i 2).val (fun u hu => nomatch hu) hloop)
  rw [spec_apply]
  unfold lastHeads
  generalize afterTrips (View.read (Elt F) arg4.view fk) (View.read (Elt F) arg5.view fv) (i 2).val
    (start i arg4 harg4 arg5 harg5 (View.read (Elt F) arg3.view fq) (View.read (Elt F) arg4.view fk) (View.read (Elt F) arg5.view fv)) = a
  rw [show held (F := F) c (start i arg4 harg4 arg5 harg5 (View.read (Elt F) arg3.view fq) (View.read (Elt F) arg4.view fk) (View.read (Elt F) arg5.view fv))
      (View.read (Elt F) arg4.view fk) (View.read (Elt F) arg5.view fv)
    = iprop(owns (c : Thread nD τ) arg4 fullShare (View.read (Elt F) arg4.view fk)
      ∗ owns (c : Thread nD τ) arg5 fullShare (View.read (Elt F) arg5.view fv)) from rfl]
  unfold owns
  isplitl [Hkb Hvb]
  · isplitl [Hkb]
    · iexists fk; isplitr; · ipureintro; rfl
      iexact Hkb
    iexists fv; isplitr; · ipureintro; rfl
    iexact Hvb
  iintro ⟨⟨%fk', %hk', Hkb⟩, ⟨%fv', %hv', Hvb⟩⟩
  unfold resultOf
  have hno : ¬Scalar.cmpi .ne (Scalar.extui (Scalar.cmpf .ogt a.arg10 (Named.named κ "underflow" 0x43160000#32 : F .f32)) : BitVec 32) 0#32 = 1#1 := by
    rw [Unbounded.not_gt]; exact ne_zero_of_zero
  have hyes : Scalar.cmpi .ne (Scalar.extui (Scalar.cmpf .ole a.arg10 (Named.named κ "underflow" 0x43160000#32 : F .f32)) : BitVec 32) 0#32 = 1#1 := by
    rw [Unbounded.le]; exact ne_zero_of_one
  sl_exec
  sl_step
  iapply Hk
  isplitl [Hq]
  · iexists fq; isplitr; · ipureintro; rfl
    iexact Hq
  isplitl [Hkb]
  · iexists fk'; isplitr; · ipureintro; exact hk'
    iexact Hkb
  isplitl [Hvb]
  · iexists fv'; isplitr; · ipureintro; exact hv'
    iexact Hvb
  isplitl [Hkm]
  · iexists fkm; isplitr; · ipureintro; rfl
    iexact Hkm
  isplitl [Hvm]
  · iexists fvm; isplitr; · ipureintro; rfl
    iexact Hvm
  iexists _; isplitr
  swap; · iexact Hd
  ipureintro
  refine (View.read_writes_eq_canon _ _ _ (lanes_cover _ _ _ _)).trans ?_
  rfl

end Cert.Proof.Attn

end
-- ==== Proof.Attn.Run.lean ====
/-
  The attention kernel in its ideal reading: the run of the whole program, its frame, and what its result holds.

  As for the printed kernel (`Bits/Run.lean`), but here every point's output tile is named: at point `t` the output's
  buffer holds `outTile` of that point's input blocks (`Attn/Body.lean`), and the result is those tiles put together.
-/
module

public import proofs.«01_k».proof.Proof.Attn.Body
public import proofs.«01_k».proof.Proof.Gen.KernelIdeal.Points
public import Idealize.ShloMosaic.Lib.Claim
public import Idealize.ShloMosaic.Lib.Pipeline.FrameBody
public import Idealize.ShloMosaic.Lib.Ring

@[expose] public section

set_option maxRecDepth 16384

noncomputable section

namespace Cert.Proof.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Before the call -/

/-- What core `c`'s buffers hold once the host operations before the call have run. -/
abbrev V (c : Dev nD) (b : Ref sig .tc) : Buf (Elt F) ((c : Thread nD τ).loc b) :=
  StableHlo.after hostOps0 (fun b => m (c, b)) b

/-- None of those operations makes a buffer of its own. -/
theorem hostOps0_fresh : (hostOps0 : List (HloOp τ sig (Elt F))).Forall fun op => op.fresh = ∅ := by
  simp only [List.Forall]; repeat' constructor

set_option maxHeartbeats 800000 in
/-- The host part of the program runs up to the call and leaves the buffers at `V`. -/
theorem hmain : Pipeline.HMain (Ix := Unit) (Name := ℕ) (U := UR sig nD τ) (Lvl := ℕ) cfgs 0 defs₀ trips m (main (F := F)) (V m) :=
  Pipeline.hmain_prefix cfgs 0 defs₀ trips m main hostOps0 hostOps0_sub hostOps0_fresh main_chain

/-- A buffer none of whose names the host operations write is as launched. -/
theorem V_kept (c : Dev nD) (b : Ref sig .tc)
    (hb : ∀ r ∈ [main_v0, main_cst, main_v1, main_v2, main_v3, main_v4, main_v5, main_v6, main_v7, main_v8, main_v9, main_v10,
      main_v11, main_v12], b ≠ r) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (hb _ (by simp))))

/-- Window `w`'s block at point `t`, cut from its array as the call finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-! ## What the buffers hold, point by point -/

/-- The output tile of point `t`. -/
def tileOut (c : Dev nD) (t : Fin (cfg0 (F := F)).N) : Vec F S1x256x512 .bf16 :=
  outTile (iblk m c 0 t) (iblk m c 3 t) (iblk m c 4 t)
    (heads (grid0.coords t) (iblk m c 0 t) (iblk m c 1 t) (iblk m c 2 t) (grid0.coords t 2).val)

/-- The arrays are as the host part leaves them; after the body an input's buffer holds its block and the output's its tile. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOut m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_q (c : Dev nD) (t : Fin (cfg0 (F := F)).N) : (dats m 0 c).after 0 t = iblk m c 0 t := by dsimp only [dats]; rfl
theorem after_k (c : Dev nD) (t : Fin (cfg0 (F := F)).N) : (dats m 0 c).after 1 t = iblk m c 1 t := by dsimp only [dats]; rfl
theorem after_v (c : Dev nD) (t : Fin (cfg0 (F := F)).N) : (dats m 0 c).after 2 t = iblk m c 2 t := by dsimp only [dats]; rfl
theorem after_km (c : Dev nD) (t : Fin (cfg0 (F := F)).N) : (dats m 0 c).after 3 t = iblk m c 3 t := by dsimp only [dats]; rfl
theorem after_out (c : Dev nD) (t : Fin (cfg0 (F := F)).N) : (dats m 0 c).after 5 t = tileOut m c t := by dsimp only [dats]; rfl
theorem after_vm (c : Dev nD) (t : Fin (cfg0 (F := F)).N) : (dats m 0 c).after 4 t = iblk m c 4 t := by dsimp only [dats]; rfl

/-- The query buffer holds its block when the body starts. -/
theorem before_q (c : Dev nD) (t : Fin (cfg0 (F := F)).N) (d) : (dats m 0 c).before 0 t d = iblk m c 0 t :=
  ((dats m 0 c).before_in_eq_fetched 0 rfl (fun _ => rfl) (fun _ _ _ => rfl)
    (fun t => by rw [after_q]; unfold Dat.blockOf iblk; rw [A_eq]; try rfl) t d).trans
    (by unfold Dat.fetched Dat.blockOf iblk; rw [A_eq]; try rfl)
/-- The key buffer likewise, fetched at that point or an earlier one. -/
theorem before_k (c : Dev nD) (t : Fin (cfg0 (F := F)).N) (d) : (dats m 0 c).before 1 t d = iblk m c 1 t :=
  ((dats m 0 c).before_in_eq_fetched 1 rfl (fun _ => rfl) (fun _ _ _ => rfl)
    (fun t => by rw [after_k]; unfold Dat.blockOf iblk; rw [A_eq]; try rfl) t d).trans
    (by unfold Dat.fetched Dat.blockOf iblk; rw [A_eq]; try rfl)
/-- The value buffer likewise. -/
theorem before_v (c : Dev nD) (t : Fin (cfg0 (F := F)).N) (d) : (dats m 0 c).before 2 t d = iblk m c 2 t :=
  ((dats m 0 c).before_in_eq_fetched 2 rfl (fun _ => rfl) (fun _ _ _ => rfl)
    (fun t => by rw [after_v]; unfold Dat.blockOf iblk; rw [A_eq]; try rfl) t d).trans
    (by unfold Dat.fetched Dat.blockOf iblk; rw [A_eq]; try rfl)
/-- The extra key rows' buffer likewise. -/
theorem before_km (c : Dev nD) (t : Fin (cfg0 (F := F)).N) (d) : (dats m 0 c).before 3 t d = iblk m c 3 t :=
  ((dats m 0 c).before_in_eq_fetched 3 rfl (fun _ => rfl) (fun _ _ _ => rfl)
    (fun t => by rw [after_km]; unfold Dat.blockOf iblk; rw [A_eq]; try rfl) t d).trans
    (by unfold Dat.fetched Dat.blockOf iblk; rw [A_eq]; try rfl)
/-- The extra value rows' buffer likewise. -/
theorem before_vm (c : Dev nD) (t : Fin (cfg0 (F := F)).N) (d) : (dats m 0 c).before 4 t d = iblk m c 4 t :=
  ((dats m 0 c).before_in_eq_fetched 4 rfl (fun _ => rfl) (fun _ _ _ => rfl)
    (fun t => by rw [after_vm]; unfold Dat.blockOf iblk; rw [A_eq]; try rfl) t d).trans
    (by unfold Dat.fetched Dat.blockOf iblk; rw [A_eq]; try rfl)

/-! ## The body at a point -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it gives back. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

variable [Unbounded F]

set_option maxHeartbeats 1600000 in
/-- The body at any point, by `sound_kernel` on the input blocks. -/
theorem sound_body (c : Dev nD) (t : Fin (cfg0 (F := F)).N) :
    bodyPre m c t ⊢ wp frame (wpE (defs₀ (F := F)) trips c none) Set.univ (bodyAt0 t) (fun _ => bodyPost m c t) := by
  unfold bodyPre bodyPost bodyAt0
  simp only [before_q, before_k, before_v, before_km, before_vm]
  rw [show (dats m 0 c).Φ t.succ = (dats m 0 c).Φ t.castSucc from rfl,
    show (dats m 0 c).owesAt () t.succ = (dats m 0 c).owesAt () t.castSucc from rfl,
    after_q, after_k, after_v, after_km, after_vm, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold tileOut; iexact H5

/-- The call's body at point `t` is the kernel on that point's buffers. -/
theorem body_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) :
    BodyObligation (dats (F := F) m 0 c) (defs₀ (F := F)) trips () Set.univ := fun t => by
  rw [bigSep_W0, bigSep_W0, body_row]
  exact triple_restated (sound_body m c t) rfl .rfl fun _ => .rfl

/-! ## The run and the frame -/

set_option backward.isDefEq.respectTransparency.types false in
set_option maxHeartbeats 800000 in
/-- Every fair run of the program ends, with the result made of the points' tiles, every other array as the host part left
    it, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ trips m ρ main
    (hbody := fun c => (body_obligation m c).loose) (hshare := fun c => (dats m 0 c).share_full fun _ => rfl)
    (howed := fun _ _ => rfl) (V := V m) (hmain := hmain m) (hA := A_eq m) (hΦ := fun _ _ => rfl)

/-- What the host part leaves of the arguments, the call leaves too. -/
theorem kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (show ∀ w : Fin 6, (spec0 w).arr.view.ref ≠ main_arg0 by decide))).trans
      (V_kept m c main_arg0 (by decide)),
    ((h c).2 main_arg1 (Pipeline.mem_restRefs_of main_arg1 (by decide) (show ∀ w : Fin 6, (spec0 w).arr.view.ref ≠ main_arg1 by decide))).trans
      (V_kept m c main_arg1 (by decide)),
    ((h c).2 main_arg2 (Pipeline.mem_restRefs_of main_arg2 (by decide) (show ∀ w : Fin 6, (spec0 w).arr.view.ref ≠ main_arg2 by decide))).trans
      (V_kept m c main_arg2 (by decide)),
    ((h c).2 main_arg3 (Pipeline.mem_restRefs_of main_arg3 (by decide) (show ∀ w : Fin 6, (spec0 w).arr.view.ref ≠ main_arg3 by decide))).trans
      (V_kept m c main_arg3 (by decide)),
    ((h c).2 main_arg4 (Pipeline.mem_restRefs_of main_arg4 (by decide) (show ∀ w : Fin 6, (spec0 w).arr.view.ref ≠ main_arg4 by decide))).trans
      (V_kept m c main_arg4 (by decide))⟩

/-- The frame: the run ends with the five argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨kept m h.1, h.2⟩) (run_main m ρ)

end Cert.Proof.Attn

end
-- ==== Proof.Attn.Bound.lean ====
/-
  Over the reals extended by ±∞ the bound named `underflow` is +∞, so no sum of scores passes it: the loop over the key
  tiles ends only past the last tile, and the meta tokens are always attended to.
-/
module

public import proofs.«01_k».proof.Proof.Attn.Loop
public import Idealize.ShloMosaic.PureOps.IdealRules

@[expose] public section

noncomputable section

namespace Cert.Proof.Attn

open Cert.KernelIdeal Idealize.ShloMosaic

/-- The bound's value. -/
theorem bound_top : (Named.named κ "underflow" 0x43160000#32 : Ideal .f32) = (⊤ : EReal) :=
  IdealRules.named_const.ideal_named_scalar _ _ _ _ rfl

/-- The factor's value. -/
theorem factor_eq : (Named.named κ "neg_log2e" 0xBFB8AA3B#32 : Ideal .f32) = ((-((Real.log 2)⁻¹) : ℝ) : EReal) :=
  IdealRules.named_const.ideal_named_scalar _ _ _ _ rfl

instance : Unbounded Ideal where
  le x := by
    rw [bound_top]
    show BitVec.ofBool (decide ((x : EReal) ≤ ⊤)) = 1#1
    rw [decide_eq_true le_top]; rfl
  not_gt x := by
    rw [bound_top]
    show BitVec.ofBool (decide ((⊤ : EReal) < x)) = 0#1
    rw [decide_eq_false not_top_lt]; rfl

end Cert.Proof.Attn

end
-- ==== Proof.Attn.Real.lean ====
/-
  The softplus of a real number, as the two sides of the attention's claim spell it, and sums of real numbers among the
  extended ones.
-/
module

public import proofs.«01_k».proof.Proof.Attn.Bound
public import Idealize.ShloMosaic.Lib.Pointwise

@[expose] public section

noncomputable section

namespace Cert.Proof.Attn

open Cert.KernelIdeal Idealize.ShloMosaic

/-- The softplus. -/
def sp (x : ℝ) : ℝ := Real.log (1 + Real.exp x)

/-- It is split at zero so that the exponential stays below one. -/
theorem sp_split (x : ℝ) : max x 0 + Real.log (1 + Real.exp (-max x (-x))) = sp x := by
  rcases le_total 0 x with h | h
  · rw [max_eq_left h, max_eq_left (by linarith), sp]
    have e : 1 + Real.exp x = Real.exp x * (1 + Real.exp (-x)) := by
      rw [mul_add, ← Real.exp_add, add_neg_cancel, Real.exp_zero]; ring
    rw [e, Real.log_mul (Real.exp_pos _).ne' (by positivity), Real.log_exp]
  · rw [max_eq_right h, max_eq_right (by linarith), sp, neg_neg, zero_add]

/-- A score less its own softplus is the log of its sigmoid. -/
theorem sp_neg (x : ℝ) : x - sp x = -sp (-x) := by
  have e : 1 + Real.exp x = Real.exp x * (1 + Real.exp (-x)) := by
    rw [mul_add, ← Real.exp_add, add_neg_cancel, Real.exp_zero]; ring
  rw [sp, sp, e, Real.log_mul (Real.exp_pos _).ne' (by positivity), Real.log_exp]; ring

theorem coe_max (x y : ℝ) : max (x : EReal) (y : EReal) = ((max x y : ℝ) : EReal) := (EReal.coe_strictMono.monotone.map_max).symm

/-- The log of one plus an exponential. -/
theorem log_one_add (y : ℝ) : Ideal.log (1 + ((Real.exp y : ℝ) : EReal)) = ((Real.log (1 + Real.exp y) : ℝ) : EReal) := by
  have h : ¬(1 + Real.exp y) ≤ 0 := not_le.mpr (by positivity)
  rw [← EReal.coe_one, ← EReal.coe_add, Ideal.log_coe, if_neg h]

/-- The kernel's softplus of a real, by a power of two, -/
theorem splus_real (x : ℝ) : max (x : EReal) 0 + Ideal.log (1 + Ideal.exp2 (max (x : EReal) (-(x : EReal))
      * (Named.named κ "neg_log2e" 0xBFB8AA3B#32 : Ideal .f32))) = ((sp x : ℝ) : EReal) := by
  have e : Real.rpow 2 (max x (-x) * -(Real.log 2)⁻¹) = Real.exp (-max x (-x)) := by
    show (2 : ℝ) ^ (max x (-x) * -(Real.log 2)⁻¹) = _
    rw [Real.rpow_def_of_pos (by norm_num)]
    have h2 : Real.log 2 ≠ 0 := (Real.log_pos (by norm_num)).ne'
    congr 1; field_simp
  rw [factor_eq, ← EReal.coe_neg, coe_max, ← EReal.coe_mul, Ideal.exp2_coe, e, log_one_add, ← EReal.coe_zero, coe_max, ← EReal.coe_add, sp_split]

/-- and the reference's, by an exponential. -/
theorem softplus_real (x : ℝ) : max (x : EReal) 0 + Ideal.log (1 + Ideal.exp (-max (x : EReal) (-(x : EReal)))) = ((sp x : ℝ) : EReal) := by
  rw [← EReal.coe_neg, coe_max, ← EReal.coe_neg, Ideal.exp_coe, log_one_add, ← EReal.coe_zero, coe_max, ← EReal.coe_add, sp_split]

/-! ## Sums -/

theorem sum_real {ι : Type*} (s : Finset ι) (f : ι → ℝ) : ∑ i ∈ s, (f i : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A real number that is not negative goes into a sum of extended ones. -/
theorem mul_sum_real {ι : Type*} (s : Finset ι) (a : ℝ) (ha : 0 ≤ a) (f : ι → EReal) : (a : EReal) * ∑ i ∈ s, f i = ∑ i ∈ s, (a : EReal) * f i := by
  classical
  induction s using Finset.induction_on with
  | empty => rw [Finset.sum_empty, Finset.sum_empty, mul_zero]
  | insert b s hb ih =>
    rw [Finset.sum_insert hb, Finset.sum_insert hb, EReal.left_distrib_of_nonneg_of_ne_top (by exact_mod_cast ha) (EReal.coe_ne_top a), ih]

/-- A sum over `n` consecutive places from `a` on. -/
theorem sum_from {M : Type*} [AddCommMonoid M] (n a : ℕ) (f : ℕ → M) : ∑ i : Fin n, f (a + i.val) = ∑ p ∈ Finset.Ico a (a + n), f p := by
  rw [Fin.sum_univ_eq_sum_range (fun i => f (a + i)) n, Finset.sum_Ico_eq_sum_range, Nat.add_sub_cancel_left]

/-- Entries of `n` places summed from place `l` on: the places before are weighted by zero. -/
theorem sum_tail (n : ℕ) (l : ℕ) (σ : ℕ → ℝ) :
    ∑ i : Fin n, (σ i.val : EReal) * (if l ≤ i.val then 1 else 0) = ((∑ p ∈ Finset.Ico l n, σ p : ℝ) : EReal) := by
  have h (i : Fin n) : (σ i.val : EReal) * (if l ≤ i.val then 1 else 0) = ((if l ≤ i.val then σ i.val else 0 : ℝ) : EReal) := by
    split <;> simp
  rw [Finset.sum_congr rfl fun i _ => h i, sum_real, Fin.sum_univ_eq_sum_range (fun p => if l ≤ p then σ p else 0) n, ← Finset.sum_filter]
  congr 2
  ext p
  simp only [Finset.mem_filter, Finset.mem_range, Finset.mem_Ico]
  omega

/-- What a real leaves of itself is zero. -/
theorem sum_nothing (n : ℕ) (σ : ℕ → ℝ) (w : Fin n → EReal) : ∑ i : Fin n, ((σ i.val : EReal) - (σ i.val : EReal)) * w i = 0 :=
  Finset.sum_eq_zero fun i _ => by rw [← EReal.coe_sub, sub_self, EReal.coe_zero, zero_mul]

end Cert.Proof.Attn

end
-- ==== Proof.Attn.Cells.lean ====
/-
  The attention kernel's steps read entry by entry, over the reals extended by ±∞.
-/
module

public import proofs.«01_k».proof.Proof.Attn.Heads
public import proofs.«01_k».proof.Proof.Attn.Real
public import Idealize.ShloMosaic.Lib.WordCmp

@[expose] public section

set_option maxRecDepth 16384

noncomputable section

namespace Cert.Proof.Attn

open Cert.KernelIdeal Cert.KernelIdeal.Gen

open Idealize.ShloMosaic Idealize.ShloMosaic.TcCoe

/-- A choice by a decided bit. -/
theorem select_ofBool {α : Type} (b : Bool) (x y : α) : Scalar.select (BitVec.ofBool b) x y = if b then x else y := by
  cases b <;> rfl

/-! ## A tile -/

/-- The triangle of ones: key `l'` counts for key `l` when it is not before it. -/
theorem tri_at (l' l : Fin 256) : (k0_pay82 (F := Ideal)) (ix2 l' l) = if l.val ≤ l'.val then 1 else 0 := by
  pointwise [k0_pay82]
  rw [WordCmp.cmpi_sge_ofNat (by omega) (by omega), select_ofBool]
  simp only [decide_eq_true_eq]

theorem past_at (r l : Fin 256) (x : FVec Ideal S256x256 .f32) : past x (ix2 r l) = if l.val < r.val then x (ix2 r l) else 0 := by
  pointwise [past, k0_pay83]
  rw [WordCmp.cmpi_slt_ofNat (by omega) (by omega), select_ofBool]
  simp only [decide_eq_true_eq]

theorem score_at (qm kp : FVec Ideal S256x128 .bf16) (r l : Fin 256) : score qm kp (ix2 r l) = ∑ e, qm (ix2 r e) * kp (ix2 l e) := by
  pointwise [score]

theorem suffix_read (tri : FVec Ideal S256x256 .bf16) (x : FVec Ideal S256x256 .f32) (r l : Fin 256) :
    suffix tri x (ix2 r l) = (∑ i, x (ix2 r i) * tri (ix2 i l)) + ∑ i, (x (ix2 r i) - x (ix2 r i)) * tri (ix2 i l) := by
  pointwise [suffix, hi, lo]

/-- The sums of a row of reals from each place on. -/
theorem suffix_at (x : FVec Ideal S256x256 .f32) (r l : Fin 256) (σ : ℕ → ℝ) (h : ∀ i : Fin 256, x (ix2 r i) = ((σ i.val : ℝ) : EReal)) :
    suffix k0_pay82 x (ix2 r l) = ((∑ p ∈ Finset.Ico l.val 256, σ p : ℝ) : EReal) := by
  rw [suffix_read]
  simp only [h, tri_at]
  rw [sum_tail, sum_nothing, add_zero]

theorem splus_read {s : Shape} (x : FVec Ideal s .f32) (i : s.Idx) :
    splus x i = max (x i) 0 + Ideal.log (1 + Ideal.exp2 (max (x i) (-(x i)) * (Named.named κ "neg_log2e" 0xBFB8AA3B#32 : Ideal .f32))) := by
  pointwise [splus]
  rfl

theorem splus_at {s : Shape} (x : FVec Ideal s .f32) (i : s.Idx) (ζ : ℝ) (h : x i = ((ζ : ℝ) : EReal)) : splus x i = ((sp ζ : ℝ) : EReal) := by
  rw [splus_read, h, splus_real]

theorem outNext_at (o : FVec Ideal S256x128 .f32) (a : FVec Ideal S256x256 .f32) (v : FVec Ideal S256x128 .bf16) (r : Fin 256) (e : Fin 128) :
    outNext o a v (ix2 r e) = o (ix2 r e) + ∑ l, a (ix2 r l) * v (ix2 l e) := by
  pointwise [outNext]

theorem weight_at (z suf : FVec Ideal S256x256 .f32) (c : FVec Ideal S256x1 .f32) (r l : Fin 256) :
    weight z suf c (ix2 r l) = Ideal.exp (z (ix2 r l) - suf (ix2 r l) - c (ix2 r 0)) := by
  pointwise [weight]

theorem cNext_at (c : FVec Ideal S256x1 .f32) (suf : FVec Ideal S256x256 .f32) (r : Fin 256) :
    cNext c suf (ix2 r 0) = c (ix2 r 0) + suf (ix2 r 0) := by
  pointwise [cNext]

theorem nothing_at (r : Fin 256) (e : Fin 128) : (k0_pay85 (F := Ideal)) (ix2 r e) = 0 := by pointwise [k0_pay85]
theorem zero_at (r : Fin 256) : (k0_pay86 (F := Ideal)) (ix2 r 0) = 0 := by pointwise [k0_pay86]

/-! ## The extra rows -/

theorem metaTri_at (l l' : Fin 16) : (k0_pay84 (F := Ideal)) (ix2 l l') = if l.val ≤ l'.val then 1 else 0 := by
  pointwise [k0_pay84]
  rw [WordCmp.cmpi_sge_ofNat (by omega) (by omega), select_ofBool]
  simp only [decide_eq_true_eq]

theorem metaScore_at (km : Vec Ideal S16x128 .bf16) (qm : FVec Ideal S256x128 .bf16) (l : Fin 16) (r : Fin 256) :
    metaScore km qm (ix2 l r) = ∑ e, km (ix2 l e) * qm (ix2 r e) := by
  pointwise [metaScore]

theorem metaSuffix_read (x : FVec Ideal S16x256 .f32) (l : Fin 16) (r : Fin 256) :
    metaSuffix x (ix2 l r) = (∑ i, (k0_pay84 (F := Ideal)) (ix2 l i) * x (ix2 i r)) + ∑ i, (k0_pay84 (F := Ideal)) (ix2 l i) * (x (ix2 i r) - x (ix2 i r)) := by
  pointwise [metaSuffix, hi, lo]

theorem metaSuffix_at (x : FVec Ideal S16x256 .f32) (l : Fin 16) (r : Fin 256) (σ : ℕ → ℝ) (h : ∀ i : Fin 16, x (ix2 i r) = ((σ i.val : ℝ) : EReal)) :
    metaSuffix x (ix2 l r) = ((∑ p ∈ Finset.Ico l.val 16, σ p : ℝ) : EReal) := by
  rw [metaSuffix_read]
  simp only [h, metaTri_at]
  simp only [mul_comm (if l.val ≤ _ then (1 : EReal) else 0)]
  rw [sum_tail, sum_nothing, add_zero]

theorem metaWeight_at (z : FVec Ideal S16x256 .f32) (l : Fin 16) (r : Fin 256) :
    metaWeight z (ix2 l r) = Ideal.exp (z (ix2 l r) - metaSuffix (splus z) (ix2 l r)) := by
  unfold metaWeight
  generalize metaSuffix (splus z) = y
  pointwise []

theorem withMeta_at (qm : FVec Ideal S256x128 .bf16) (km vm : Vec Ideal S16x128 .bf16) (s : Head Ideal) (r : Fin 256) (e : Fin 128) :
    withMeta qm km vm s (ix2 r e) = s.1 (ix2 r e) + Ideal.exp (0 - s.2 (ix2 r 0)) * ∑ l, metaWeight (metaScore km qm) (ix2 l r) * vm (ix2 l e) := by
  unfold withMeta
  generalize metaWeight (metaScore km qm) = y
  pointwise []

end Cert.Proof.Attn

end
-- ==== Proof.Attn.Lanes.lean ====
/-
  Where a head's queries, keys and values lie among the lanes, and which rows a tile takes.

  Head `h` has the 64 lanes from lane `64 h` on. The kernel works on 128 lanes at a time, those of a pair of heads, and sets the
  queries of the other head of the pair to zero, so that a product over 128 lanes is the product over the head's own 64.
-/
module

public import proofs.«01_k».proof.Proof.Attn.Cells

@[expose] public section

set_option maxRecDepth 16384

noncomputable section

namespace Cert.Proof.Attn

open Cert.KernelIdeal Cert.KernelIdeal.Gen

open Idealize.ShloMosaic Idealize.ShloMosaic.TcCoe

/-- Lane `e` of the pair of heads `h` belongs to. -/
def pairLane (h : Fin 8) (e : Fin 128) : Fin 512 := ⟨128 * (h.val / 2) + e.val, by omega⟩

/-- The lane of a head's own place `d`. -/
def headLane (h : Fin 8) (d : Fin 64) : Fin 512 := ⟨64 * h.val + d.val, by omega⟩

/-- The head's own place `d` within the pair's lanes. -/
def ownLane (h : Fin 8) (d : Fin 64) : Fin 128 := ⟨64 * (h.val % 2) + d.val, by omega⟩

theorem pairLane_own (h : Fin 8) (d : Fin 64) : pairLane h (ownLane h d) = headLane h d :=
  Fin.ext (by show 128 * (h.val / 2) + (64 * (h.val % 2) + d.val) = 64 * h.val + d.val; omega)

theorem keep_even (x : Vec Ideal S1x256x128 .bf16) (r : Fin 256) (e : Fin 128) :
    keep k0_pay70 x (ix2 r e) = if e.val < 64 then x (ix3 0 r e) else 0 := by
  pointwise [keep, k0_pay70]
  rw [show (64#32 : BitVec 32) = BitVec.ofNat 32 64 from rfl, WordCmp.cmpi_slt_ofNat (by omega) (by omega), select_ofBool]
  simp only [decide_eq_true_eq]

theorem keep_odd (x : Vec Ideal S1x256x128 .bf16) (r : Fin 256) (e : Fin 128) :
    keep oddLanes x (ix2 r e) = if e.val < 64 then 0 else x (ix3 0 r e) := by
  pointwise [keep, oddLanes, k0_pay70]
  rw [show (64#32 : BitVec 32) = BitVec.ofNat 32 64 from rfl, WordCmp.cmpi_slt_ofNat (by omega) (by omega),
    show (1#1 : BitVec 1) = BitVec.ofBool true from rfl, WordCmp.xori_ofBool, select_ofBool]
  by_cases h : e.val < 64 <;> simp [h]

section Cuts
variable (q : Vec Ideal S1x256x512 .bf16) (r : Fin 256) (e : Fin 128)

theorem cut0 : View.ld q lane0 (ix3 0 r e) = q (ix3 0 r ⟨e.val, by omega⟩) := by pointwise []
theorem cut1 : View.ld q lane1 (ix3 0 r e) = q (ix3 0 r ⟨128 + e.val, by omega⟩) := by pointwise []
theorem cut2 : View.ld q lane2 (ix3 0 r e) = q (ix3 0 r ⟨256 + e.val, by omega⟩) := by pointwise []
theorem cut3 : View.ld q lane3 (ix3 0 r e) = q (ix3 0 r ⟨384 + e.val, by omega⟩) := by pointwise []

/-- The pair's lanes begin where the pair's cut does. -/
theorem pairLane_eq (h : Fin 8) (o : ℕ) (ho : o + e.val < 512) (h2 : 128 * (h.val / 2) = o) : pairLane h e = ⟨o + e.val, ho⟩ :=
  Fin.ext (by show 128 * (h.val / 2) + e.val = o + e.val; rw [h2])

theorem pairLane_first (h : Fin 8) (h2 : h.val / 2 = 0) : pairLane h e = ⟨e.val, by omega⟩ :=
  Fin.ext (by show 128 * (h.val / 2) + e.val = e.val; rw [h2]; omega)

theorem even_at (h : Fin 8) (h0 : h.val % 2 = 0) (x y : EReal) (hxy : x = y) :
    (if e.val < 64 then x else 0) = if e.val / 64 = h.val % 2 then y else 0 := by
  rw [h0, hxy]
  by_cases he : e.val < 64
  · rw [if_pos he, if_pos (by omega)]
  · rw [if_neg he, if_neg (by omega)]

theorem odd_at (h : Fin 8) (h1 : h.val % 2 = 1) (x y : EReal) (hxy : x = y) :
    (if e.val < 64 then 0 else x) = if e.val / 64 = h.val % 2 then y else 0 := by
  rw [h1, hxy]
  by_cases he : e.val < 64
  · rw [if_pos he, if_neg (by omega)]
  · rw [if_neg he, if_pos (by omega)]

/-- A head's queries. -/
theorem qOf_at : ∀ h : Fin 8, qOf q h (ix2 r e) = if e.val / 64 = h.val % 2 then q (ix3 0 r (pairLane h e)) else 0
  | 0 => (keep_even (View.ld q lane0) r e).trans (even_at e 0 rfl _ _ ((cut0 q r e).trans (by rw [pairLane_first e 0 rfl])))
  | 1 => (keep_odd (View.ld q lane0) r e).trans (odd_at e 1 rfl _ _ ((cut0 q r e).trans (by rw [pairLane_first e 1 rfl])))
  | 2 => (keep_even (View.ld q lane1) r e).trans (even_at e 2 rfl _ _ ((cut1 q r e).trans (by rw [pairLane_eq e 2 128 (by omega) rfl])))
  | 3 => (keep_odd (View.ld q lane1) r e).trans (odd_at e 3 rfl _ _ ((cut1 q r e).trans (by rw [pairLane_eq e 3 128 (by omega) rfl])))
  | 4 => (keep_even (View.ld q lane2) r e).trans (even_at e 4 rfl _ _ ((cut2 q r e).trans (by rw [pairLane_eq e 4 256 (by omega) rfl])))
  | 5 => (keep_odd (View.ld q lane2) r e).trans (odd_at e 5 rfl _ _ ((cut2 q r e).trans (by rw [pairLane_eq e 5 256 (by omega) rfl])))
  | 6 => (keep_even (View.ld q lane3) r e).trans (even_at e 6 rfl _ _ ((cut3 q r e).trans (by rw [pairLane_eq e 6 384 (by omega) rfl])))
  | 7 => (keep_odd (View.ld q lane3) r e).trans (odd_at e 7 rfl _ _ ((cut3 q r e).trans (by rw [pairLane_eq e 7 384 (by omega) rfl])))

/-- A pair's lanes of a tile. -/
theorem pairOf_at (x : FVec Ideal S256x512 .bf16) (h : Fin 8) : pairOf x h (ix2 r e) = x (ix2 r (pairLane h e)) := by
  have c0 : extractStridedSlice S256x128 ![0, 0] x slices_S256x512_o0_0_S256x128 (ix2 r e) = x (ix2 r ⟨e.val, by omega⟩) := by pointwise []
  have c1 : extractStridedSlice S256x128 ![0, 128] x slices_S256x512_o0_128_S256x128 (ix2 r e) = x (ix2 r ⟨128 + e.val, by omega⟩) := by pointwise []
  have c2 : extractStridedSlice S256x128 ![0, 256] x slices_S256x512_o0_256_S256x128 (ix2 r e) = x (ix2 r ⟨256 + e.val, by omega⟩) := by pointwise []
  have c3 : extractStridedSlice S256x128 ![0, 384] x slices_S256x512_o0_384_S256x128 (ix2 r e) = x (ix2 r ⟨384 + e.val, by omega⟩) := by pointwise []
  match h with
  | 0 => rw [pairLane_first e 0 rfl]; exact c0
  | 1 => rw [pairLane_first e 1 rfl]; exact c0
  | 2 => rw [pairLane_eq e 2 128 (by omega) rfl]; exact c1
  | 3 => rw [pairLane_eq e 3 128 (by omega) rfl]; exact c1
  | 4 => rw [pairLane_eq e 4 256 (by omega) rfl]; exact c2
  | 5 => rw [pairLane_eq e 5 256 (by omega) rfl]; exact c2
  | 6 => rw [pairLane_eq e 6 384 (by omega) rfl]; exact c3
  | 7 => rw [pairLane_eq e 7 384 (by omega) rfl]; exact c3

/-- A pair's lanes of the extra rows. -/
theorem metaOf_at (x : Vec Ideal S16x512 .bf16) (l : Fin 16) (h : Fin 8) : metaOf x h (ix2 l e) = x (ix2 l (pairLane h e)) := by
  have c0 : View.ld x mlane0 (ix2 l e) = x (ix2 l ⟨e.val, by omega⟩) := by pointwise []
  have c1 : View.ld x mlane1 (ix2 l e) = x (ix2 l ⟨128 + e.val, by omega⟩) := by pointwise []
  have c2 : View.ld x mlane2 (ix2 l e) = x (ix2 l ⟨256 + e.val, by omega⟩) := by pointwise []
  have c3 : View.ld x mlane3 (ix2 l e) = x (ix2 l ⟨384 + e.val, by omega⟩) := by pointwise []
  match h with
  | 0 => rw [pairLane_first e 0 rfl]; exact c0
  | 1 => rw [pairLane_first e 1 rfl]; exact c0
  | 2 => rw [pairLane_eq e 2 128 (by omega) rfl]; exact c1
  | 3 => rw [pairLane_eq e 3 128 (by omega) rfl]; exact c1
  | 4 => rw [pairLane_eq e 4 256 (by omega) rfl]; exact c2
  | 5 => rw [pairLane_eq e 5 256 (by omega) rfl]; exact c2
  | 6 => rw [pairLane_eq e 6 384 (by omega) rfl]; exact c3
  | 7 => rw [pairLane_eq e 7 384 (by omega) rfl]; exact c3

end Cuts

/-- A sum over the pair's lanes of which only the head's own count. -/
theorem sum_own (h : Fin 8) (f : Fin 128 → EReal) : (∑ e : Fin 128, if e.val / 64 = h.val % 2 then f e else 0) = ∑ d : Fin 64, f (ownLane h d) := by
  rw [← Finset.sum_filter]
  symm
  refine Finset.sum_bij (fun d _ => ownLane h d) (fun d _ => ?_) (fun a _ b _ hab => ?_) (fun e he => ?_) (fun _ _ => rfl)
  · rw [Finset.mem_filter]; exact ⟨Finset.mem_univ _, by show (64 * (h.val % 2) + d.val) / 64 = h.val % 2; omega⟩
  · have : 64 * (h.val % 2) + a.val = 64 * (h.val % 2) + b.val := congrArg Fin.val hab
    exact Fin.ext (by omega)
  · have he' : e.val / 64 = h.val % 2 := (Finset.mem_filter.mp he).2
    exact ⟨⟨e.val % 64, by omega⟩, Finset.mem_univ _, Fin.ext (by show 64 * (h.val % 2) + e.val % 64 = e.val; omega)⟩

/-- A head's scores of a tile, over its own lanes, -/
theorem score_own (q : Vec Ideal S1x256x512 .bf16) (x : FVec Ideal S256x512 .bf16) (h : Fin 8) (r l : Fin 256) :
    score (qOf q h) (pairOf x h) (ix2 r l) = ∑ d, q (ix3 0 r (headLane h d)) * x (ix2 l (headLane h d)) := by
  rw [score_at]
  simp only [qOf_at, pairOf_at, ite_mul, zero_mul]
  rw [sum_own h fun e => q (ix3 0 r (pairLane h e)) * x (ix2 l (pairLane h e))]
  simp only [pairLane_own]

/-- and of the extra rows. -/
theorem metaScore_own (q : Vec Ideal S1x256x512 .bf16) (x : Vec Ideal S16x512 .bf16) (h : Fin 8) (r : Fin 256) (l : Fin 16) :
    metaScore (metaOf x h) (qOf q h) (ix2 l r) = ∑ d, q (ix3 0 r (headLane h d)) * x (ix2 l (headLane h d)) := by
  rw [metaScore_at]
  simp only [qOf_at, metaOf_at, mul_ite, mul_zero]
  rw [sum_own h fun e => x (ix2 l (pairLane h e)) * q (ix3 0 r (pairLane h e))]
  simp only [pairLane_own, mul_comm]

/-! ## The tiles' rows -/

/-- A three-axis index from its coordinates. -/
theorem eq_cell {A B C : ℕ} {a : Fin A} {b : Fin B} {c : Fin C} {y : (⟨3, ![A, B, C]⟩ : Shape).Idx} (h0 : (y 0).val = a.val)
    (h1 : (y 1).val = b.val) (h2 : (y 2).val = c.val) : y = ix3 a b c := by
  rw [eq_ix3 y]
  congr 1
  · exact Fin.ext h0
  · exact Fin.ext h1
  · exact Fin.ext h2

/-- Row `l` of tile `j`. -/
def seqRow (j : ℕ) (hj : j < 8) (l : Fin 256) : Fin 2048 := ⟨256 * j + l.val, by omega⟩

theorem flat_at (y : FVec Ideal S1x256x512 .bf16) (l : Fin 256) (e : Fin 512) :
    shapeCast S256x512 y shapeCasts_S1x256x512_S256x512 (ix2 l e) = y (ix3 0 l e) := by
  pointwise []

/-- A cut of 256 rows from row `256 j` on. -/
theorem rows_at (x : Vec Ideal S1x2048x512 .bf16) (off : Fin 3 → ℕ) (inb : ∀ a, off a + S1x256x512.size a ≤ S1x2048x512.size a)
    (h0 : off 0 = 0) (j : ℕ) (hj : j < 8) (h1 : off 1 = 256 * j) (h2 : off 2 = 0) (l : Fin 256) (e : Fin 512) :
    shapeCast S256x512 (View.ld x (Rect.unit (s := S1x2048x512) off S1x256x512.size inb)) shapeCasts_S1x256x512_S256x512 (ix2 l e)
      = x (ix3 0 (seqRow j hj l) e) := by
  refine (flat_at _ l e).trans ?_
  show x ((Rect.unit (s := S1x2048x512) off S1x256x512.size inb).emb (ix3 0 l e)) = _
  refine congrArg x (eq_cell ?_ ?_ ?_)
  · rw [Rect.emb_apply]; show off 0 + 1 * 0 = 0; omega
  · rw [Rect.emb_apply]; show off 1 + 1 * l.val = 256 * j + l.val; omega
  · rw [Rect.emb_apply]; show off 2 + 1 * e.val = e.val; omega

/-- The diagonal tile starts at row `256 i`. -/
theorem diag_row : ∀ q < 8, (Scalar.indexCast (Scalar.muli (BitVec.ofNat 32 q) 256#32)).toNat = 256 * q := by decide

theorem diagTile_at (i : grid0.Coords) (x : Vec Ideal S1x2048x512 .bf16) (l : Fin 256) (e : Fin 512) :
    diagTile i x (ix2 l e) = x (ix3 0 (seqRow (i 2).val (i 2).isLt l) e) := by
  refine rows_at x _ _ rfl _ _ ?_ rfl l e
  exact diag_row (i 2).val (i 2).isLt

theorem tileAt_at (i : grid0.Coords) (n : ℕ) (hn : n ≤ (i 2).val) (x : Vec Ideal S1x2048x512 .bf16) (l : Fin 256) (e : Fin 512) :
    tileAt i (BitVec.ofNat 32 n) x (ix2 l e) = x (ix3 0 (seqRow ((i 2).val - n) (Nat.lt_of_le_of_lt (Nat.sub_le _ _) (i 2).isLt) l) e) := by
  rw [tileAt_of i _ (chk_of_le i n hn)]
  exact rows_at x _ _ rfl _ _ (tile_row (i 2).val (i 2).isLt n hn).2 rfl l e

end Cert.Proof.Attn

end
-- ==== Proof.Attn.Tiles.lean ====
/-
  What one head has after each tile: the weighted values of the places taken so far, and their total of softplus.

  For a query that sees the places before `N`, with the real scores `ζ`, place `p` has the weight
  `exp (ζ p - ∑ softplus (ζ p'))`, the sum over the places `p'` from `p` up to `N`. The kernel takes the places from `N` down, a
  tile at a time.
-/
module

public import proofs.«01_k».proof.Proof.Attn.Cells

@[expose] public section

set_option maxRecDepth 16384

noncomputable section

namespace Cert.Proof.Attn

open Cert.KernelIdeal Cert.KernelIdeal.Gen

open Idealize.ShloMosaic Idealize.ShloMosaic.TcCoe

variable (ζ : ℕ → ℝ) (V : ℕ → Fin 128 → EReal) (N : ℕ)

/-- The total of softplus from place `p` up to `N`. -/
def total (p : ℕ) : ℝ := ∑ p' ∈ Finset.Ico p N, sp (ζ p')

/-- The weight of place `p`. -/
def share (p : ℕ) : ℝ := Real.exp (ζ p - total ζ N p)

/-- A head has the places from `p` up to `N`, for the query in row `r`. -/
def Holds (p : ℕ) (s : Head Ideal) (r : Fin 256) : Prop :=
  s.2 (ix2 r 0) = ((total ζ N p : ℝ) : EReal) ∧ ∀ e, s.1 (ix2 r e) = ∑ p' ∈ Finset.Ico p N, ((share ζ N p' : ℝ) : EReal) * V p' e

/-- The total is that of the places up to `M` and that from `M` on. -/
theorem total_split {p M : ℕ} (h : p ≤ M) (h' : M ≤ N) : total ζ N p = total ζ M p + total ζ N M :=
  (Finset.sum_Ico_consecutive (fun p' => sp (ζ p')) h h').symm

/-- The same total counted from a tile's first place. -/
theorem total_shift (a l n : ℕ) : ∑ i ∈ Finset.Ico l n, sp (ζ (a + i)) = total ζ (a + n) (a + l) := by
  rw [total, add_comm a n, add_comm a l, ← Finset.sum_Ico_add']
  exact Finset.sum_congr rfl fun i _ => by rw [add_comm]

/-- An earlier tile, from place `a` on. -/
theorem tileNext_holds (qm kp vp : FVec Ideal S256x128 .bf16) (s : Head Ideal) (r : Fin 256) (a : ℕ) (hN : a + 256 ≤ N)
    (hz : ∀ l : Fin 256, score qm kp (ix2 r l) = ((ζ (a + l.val) : ℝ) : EReal)) (hv : ∀ (l : Fin 256) e, vp (ix2 l e) = V (a + l.val) e)
    (hs : Holds ζ V N (a + 256) s r) : Holds ζ V N a (tileNext k0_pay82 qm kp vp s) r := by
  have hsuf (l : Fin 256) : suffix k0_pay82 (splus (score qm kp)) (ix2 r l) = ((total ζ (a + 256) (a + l.val) : ℝ) : EReal) := by
    rw [suffix_at _ r l (fun i => sp (ζ (a + i))) fun i => splus_at _ _ _ (hz i), total_shift]
  refine ⟨?_, fun e => ?_⟩
  · show cNext s.2 (suffix k0_pay82 (splus (score qm kp))) (ix2 r 0) = _
    rw [cNext_at, hs.1, hsuf 0, ← EReal.coe_add, add_comm]
    exact congrArg _ (total_split ζ N (by omega) hN).symm
  · show outNext s.1 (weight (score qm kp) (suffix k0_pay82 (splus (score qm kp))) s.2) vp (ix2 r e) = _
    have hw (l : Fin 256) : weight (score qm kp) (suffix k0_pay82 (splus (score qm kp))) s.2 (ix2 r l) = ((share ζ N (a + l.val) : ℝ) : EReal) := by
      rw [weight_at, hz l, hsuf l, hs.1, ← EReal.coe_sub, ← EReal.coe_sub, Ideal.exp_coe, sub_sub,
        ← total_split ζ N (by omega) hN]
      rfl
    rw [outNext_at, hs.2 e]
    simp only [hw, hv]
    rw [sum_from 256 a fun p => ((share ζ N p : ℝ) : EReal) * V p e, add_comm, Finset.sum_Ico_consecutive _ (by omega) hN]

/-- The diagonal tile, from place `a` on, where only the places before the query's own count. -/
theorem diagNext_holds (qm kp vp : FVec Ideal S256x128 .bf16) (r : Fin 256) (a : ℕ)
    (hz : ∀ l : Fin 256, score qm kp (ix2 r l) = ((ζ (a + l.val) : ℝ) : EReal)) (hv : ∀ (l : Fin 256) e, vp (ix2 l e) = V (a + l.val) e) :
    Holds ζ V (a + r.val) a (diagNext k0_pay82 qm kp vp) r := by
  have hp (i : Fin 256) : past (splus (score qm kp)) (ix2 r i) = (((if i.val < r.val then sp (ζ (a + i.val)) else 0 : ℝ)) : EReal) := by
    rw [past_at]
    split
    · exact splus_at _ _ _ (hz i)
    · exact EReal.coe_zero.symm
  have hsuf (l : Fin 256) (hl : l.val ≤ r.val) :
      suffix k0_pay82 (past (splus (score qm kp))) (ix2 r l) = ((total ζ (a + r.val) (a + l.val) : ℝ) : EReal) := by
    rw [suffix_at _ r l (fun i => if i < r.val then sp (ζ (a + i)) else 0) hp, ← total_shift,
      ← Finset.sum_Ico_consecutive _ hl r.isLt.le]
    congr 1
    rw [Finset.sum_eq_zero (s := Finset.Ico r.val 256) (fun i hi => if_neg (not_lt.mpr (Finset.mem_Ico.mp hi).1)), add_zero]
    exact Finset.sum_congr rfl fun i hi => if_pos (Finset.mem_Ico.mp hi).2
  refine ⟨?_, fun e => ?_⟩
  · show cNext k0_pay86 (suffix k0_pay82 (past (splus (score qm kp)))) (ix2 r 0) = _
    rw [cNext_at, zero_at, zero_add, hsuf 0 (Nat.zero_le _)]
    rfl
  · show outNext k0_pay85 (past (weight (score qm kp) (suffix k0_pay82 (past (splus (score qm kp)))) k0_pay86)) vp (ix2 r e) = _
    have hw (l : Fin 256) : past (weight (score qm kp) (suffix k0_pay82 (past (splus (score qm kp)))) k0_pay86) (ix2 r l) * vp (ix2 l e)
        = if l.val < r.val then ((share ζ (a + r.val) (a + l.val) : ℝ) : EReal) * V (a + l.val) e else 0 := by
      rw [past_at]
      by_cases h : l.val < r.val
      · rw [if_pos h, if_pos h, weight_at, hz l, hsuf l h.le, zero_at, sub_zero, ← EReal.coe_sub, Ideal.exp_coe, hv]
        rfl
      · rw [if_neg h, if_neg h, zero_mul]
    rw [outNext_at, nothing_at, zero_add, Finset.sum_congr rfl fun l _ => hw l,
      Fin.sum_univ_eq_sum_range (fun l => if l < r.val then ((share ζ (a + r.val) (a + l) : ℝ) : EReal) * V (a + l) e else 0) 256,
      ← Finset.sum_filter, Finset.sum_Ico_eq_sum_range, Nat.add_sub_cancel_left]
    congr 1
    ext p
    simp only [Finset.mem_filter, Finset.mem_range]
    omega

/-- The extra rows, the first 16 places: with them every place before `N` is taken. -/
theorem withMeta_holds (qm : FVec Ideal S256x128 .bf16) (km vm : Vec Ideal S16x128 .bf16) (s : Head Ideal) (r : Fin 256) (hN : 16 ≤ N)
    (hz : ∀ l : Fin 16, metaScore km qm (ix2 l r) = ((ζ l.val : ℝ) : EReal)) (e : Fin 128) (hv : ∀ l : Fin 16, vm (ix2 l e) = V l.val e)
    (hs : Holds ζ V N 16 s r) :
    withMeta qm km vm s (ix2 r e) = ∑ p ∈ Finset.range N, ((share ζ N p : ℝ) : EReal) * V p e := by
  have hw (l : Fin 16) : ((Real.exp (0 - total ζ N 16) : ℝ) : EReal) * (metaWeight (metaScore km qm) (ix2 l r) * vm (ix2 l e))
      = ((share ζ N (0 + l.val) : ℝ) : EReal) * V (0 + l.val) e := by
    rw [metaWeight_at, metaSuffix_at _ l r (fun i => sp (ζ i)) fun i => splus_at _ _ _ (hz i), hz l, ← EReal.coe_sub, Ideal.exp_coe,
      hv, ← mul_assoc, ← EReal.coe_mul, ← Real.exp_add, Nat.zero_add]
    congr 2
    rw [share, total_split ζ N (Nat.le_of_lt l.isLt) hN]
    congr 1
    show 0 - total ζ N 16 + (ζ l.val - total ζ 16 l.val) = _
    ring
  rw [withMeta_at, hs.1, hs.2 e, ← EReal.coe_zero, ← EReal.coe_sub, Ideal.exp_coe, mul_sum_real _ _ (Real.exp_pos _).le,
    Finset.sum_congr rfl fun l _ => hw l, sum_from 16 0 fun p => ((share ζ N p : ℝ) : EReal) * V p e, add_comm,
    Nat.zero_add, Finset.sum_Ico_consecutive _ (by omega) hN, Finset.range_eq_Ico]

end Cert.Proof.Attn

end
-- ==== Proof.Attn.Tile.lean ====
/-
  A point's output tile, entry by entry: for each query and each lane, the weighted sum of the lane's values over the places the
  query sees.
-/
module

public import proofs.«01_k».proof.Proof.Attn.Lanes
public import proofs.«01_k».proof.Proof.Attn.Tiles

@[expose] public section

set_option maxRecDepth 16384

noncomputable section

namespace Cert.Proof.Attn

open Cert.KernelIdeal Cert.KernelIdeal.Gen

open Idealize.ShloMosaic Idealize.ShloMosaic.TcCoe

/-! ## The heads -/

section Heads
variable (i : grid0.Coords) (q : Vec Ideal S1x256x512 .bf16) (k v : Vec Ideal S1x2048x512 .bf16) (km vm : Vec Ideal S16x512 .bf16)
  (ζ : Fin 8 → Fin 256 → ℕ → ℝ) (W : ℕ → Fin 512 → EReal)

/-- The scores are real: `ζ` of the head, the query and the place, the extra rows being the first 16 places; and the values are
    `W` of the place. -/
structure Reads : Prop where
  row : ∀ h r (p : Fin 2048), ∑ d, q (ix3 0 r (headLane h d)) * k (ix3 0 p (headLane h d)) = ((ζ h r (16 + p.val) : ℝ) : EReal)
  extra : ∀ h r (l : Fin 16), ∑ d, q (ix3 0 r (headLane h d)) * km (ix2 l (headLane h d)) = ((ζ h r l.val : ℝ) : EReal)
  value : ∀ (p : Fin 2048) e, v (ix3 0 p e) = W (16 + p.val) e
  extraValue : ∀ (l : Fin 16) e, vm (ix2 l e) = W l.val e

variable {i q k v km vm ζ W}

/-- After the diagonal tile and `n` tiles before it, a head has the places from tile `i - n` on. -/
theorem heads_holds (H : Reads q k v km vm ζ W) (h : Fin 8) (r : Fin 256) : ∀ n ≤ (i 2).val,
    Holds (ζ h r) (fun p e => W p (pairLane h e)) (16 + 256 * (i 2).val + r.val) (16 + 256 * ((i 2).val - n)) (heads i q k v n h) r := by
  intro n
  induction n with
  | zero =>
    intro _
    refine diagNext_holds (ζ h r) _ _ _ _ r (16 + 256 * (i 2).val) (fun l => ?_) (fun l e => ?_)
    · rw [score_own]
      simp only [diagTile_at]
      rw [H.row h r]
      show ((ζ h r (16 + (256 * (i 2).val + l.val)) : ℝ) : EReal) = _
      rw [add_assoc]
    · rw [pairOf_at, diagTile_at, H.value]
      show W (16 + (256 * (i 2).val + l.val)) _ = _
      rw [add_assoc]
  | succ n ih =>
    intro hn
    have hb : 16 + 256 * ((i 2).val - (n + 1)) + 256 = 16 + 256 * ((i 2).val - n) := by omega
    refine tileNext_holds (ζ h r) _ _ _ _ _ _ r (16 + 256 * ((i 2).val - (n + 1))) (by omega) (fun l => ?_) (fun l e => ?_) ?_
    · rw [score_own]
      simp only [tileAt_at i (n + 1) hn]
      rw [H.row h r]
      show ((ζ h r (16 + (256 * ((i 2).val - (n + 1)) + l.val)) : ℝ) : EReal) = _
      rw [add_assoc]
    · rw [pairOf_at, tileAt_at i (n + 1) hn, H.value]
      show W (16 + (256 * ((i 2).val - (n + 1)) + l.val)) _ = _
      rw [add_assoc]
    · rw [hb]; exact ih (by omega)

/-- The finished accumulator. -/
theorem finished_at (H : Reads q k v km vm ζ W) (h : Fin 8) (r : Fin 256) (e : Fin 128) :
    finished q km vm (heads i q k v (i 2).val) h (ix2 r e)
      = ∑ p ∈ Finset.range (16 + 256 * (i 2).val + r.val),
          ((share (ζ h r) (16 + 256 * (i 2).val + r.val) p : ℝ) : EReal) * W p (pairLane h e) := by
  have hs := heads_holds (i := i) H h r (i 2).val le_rfl
  rw [Nat.sub_self, Nat.mul_zero, Nat.add_zero] at hs
  refine withMeta_holds (ζ h r) (fun p e => W p (pairLane h e)) _ _ _ _ _ r (by omega) (fun l => ?_) e (fun l => ?_) hs
  · rw [metaScore_own]; exact H.extra h r l
  · rw [metaOf_at]; exact H.extraValue l _

end Heads

/-! ## The four pieces -/

theorem mergePair_at (x y : FVec Ideal S256x128 .f32) (r : Fin 256) (e : Fin 128) :
    mergePair x y (ix3 0 r e) = if e.val < 64 then x (ix2 r e) else y (ix2 r e) := by
  pointwise [mergePair, k0_pay70]
  rw [show (64#32 : BitVec 32) = BitVec.ofNat 32 64 from rfl, WordCmp.cmpi_slt_ofNat (by omega) (by omega), select_ofBool]
  simp only [decide_eq_true_eq]

section Pieces
variable (f3 f2 f1 f0 : FVec Ideal S1x256x128 .bf16) (r : Fin 256) (e : Fin 128)

theorem lane0_at : lane0.emb (ix3 0 r e) = ix3 0 r (⟨e.val, by omega⟩ : Fin 512) :=
  eq_cell rfl (by rw [Rect.emb_apply]; show 0 + 1 * r.val = r.val; omega) (by rw [Rect.emb_apply]; show 0 + 1 * e.val = e.val; omega)
theorem lane1_at : lane1.emb (ix3 0 r e) = ix3 0 r (⟨128 + e.val, by omega⟩ : Fin 512) :=
  eq_cell rfl (by rw [Rect.emb_apply]; show 0 + 1 * r.val = r.val; omega) (by rw [Rect.emb_apply]; show 128 + 1 * e.val = 128 + e.val; omega)
theorem lane2_at : lane2.emb (ix3 0 r e) = ix3 0 r (⟨256 + e.val, by omega⟩ : Fin 512) :=
  eq_cell rfl (by rw [Rect.emb_apply]; show 0 + 1 * r.val = r.val; omega) (by rw [Rect.emb_apply]; show 256 + 1 * e.val = 256 + e.val; omega)
theorem lane3_at : lane3.emb (ix3 0 r e) = ix3 0 r (⟨384 + e.val, by omega⟩ : Fin 512) :=
  eq_cell rfl (by rw [Rect.emb_apply]; show 0 + 1 * r.val = r.val; omega) (by rw [Rect.emb_apply]; show 384 + 1 * e.val = 384 + e.val; omega)

/-- A lane before a piece's first is none of the piece's. -/
theorem off1 (x : Fin 512) (hx : x.val < 128) : ix3 (0 : Fin 1) r x ∉ lane1.set := by
  rw [Rect.mem_set_unit]; intro h; have h2 : 128 ≤ x.val := (h 2).1; omega
theorem off2 (x : Fin 512) (hx : x.val < 256) : ix3 (0 : Fin 1) r x ∉ lane2.set := by
  rw [Rect.mem_set_unit]; intro h; have h2 : 256 ≤ x.val := (h 2).1; omega
theorem off3 (x : Fin 512) (hx : x.val < 384) : ix3 (0 : Fin 1) r x ∉ lane3.set := by
  rw [Rect.mem_set_unit]; intro h; have h2 : 384 ≤ x.val := (h 2).1; omega

/-- The tile put together from its four pieces. -/
def pieces : Vec Ideal S1x256x512 .bf16 := View.canon [⟨lane3, f3⟩, ⟨lane2, f2⟩, ⟨lane1, f1⟩, ⟨lane0, f0⟩]

theorem piece3 : pieces f3 f2 f1 f0 (ix3 0 r ⟨384 + e.val, by omega⟩) = f3 (ix3 0 r e) := by
  rw [← lane3_at]; exact View.canon_cons_emb (Val := Elt Ideal) (e := .bf16) lane3 f3 _ (ix3 0 r e)
theorem piece2 : pieces f3 f2 f1 f0 (ix3 0 r ⟨256 + e.val, by omega⟩) = f2 (ix3 0 r e) := by
  refine (View.canon_cons_of_not_mem (⟨lane3, f3⟩ : View.Piece (Elt Ideal) S1x256x512 .bf16) _ (off3 r _ (by show 256 + e.val < 384; omega))).trans ?_
  rw [← lane2_at]; exact View.canon_cons_emb (Val := Elt Ideal) (e := .bf16) lane2 f2 _ (ix3 0 r e)
theorem piece1 : pieces f3 f2 f1 f0 (ix3 0 r ⟨128 + e.val, by omega⟩) = f1 (ix3 0 r e) := by
  refine (View.canon_cons_of_not_mem (⟨lane3, f3⟩ : View.Piece (Elt Ideal) S1x256x512 .bf16) _ (off3 r _ (by show 128 + e.val < 384; omega))).trans ?_
  refine (View.canon_cons_of_not_mem (⟨lane2, f2⟩ : View.Piece (Elt Ideal) S1x256x512 .bf16) _ (off2 r _ (by show 128 + e.val < 256; omega))).trans ?_
  rw [← lane1_at]; exact View.canon_cons_emb (Val := Elt Ideal) (e := .bf16) lane1 f1 _ (ix3 0 r e)
theorem piece0 : pieces f3 f2 f1 f0 (ix3 0 r ⟨e.val, by omega⟩) = f0 (ix3 0 r e) := by
  refine (View.canon_cons_of_not_mem (⟨lane3, f3⟩ : View.Piece (Elt Ideal) S1x256x512 .bf16) _ (off3 r _ (by show e.val < 384; omega))).trans ?_
  refine (View.canon_cons_of_not_mem (⟨lane2, f2⟩ : View.Piece (Elt Ideal) S1x256x512 .bf16) _ (off2 r _ (by show e.val < 256; omega))).trans ?_
  refine (View.canon_cons_of_not_mem (⟨lane1, f1⟩ : View.Piece (Elt Ideal) S1x256x512 .bf16) _ (off1 r _ (by show e.val < 128; omega))).trans ?_
  rw [← lane0_at]; exact View.canon_cons_emb (Val := Elt Ideal) (e := .bf16) lane0 f0 _ (ix3 0 r e)

end Pieces

/-! ## The tile -/

/-- A pair's piece at a head's own lane is that head's. -/
theorem merge_even (x y : FVec Ideal S256x128 .f32) (h : Fin 8) (h0 : h.val % 2 = 0) (r : Fin 256) (d : Fin 64) :
    mergePair x y (ix3 0 r (ownLane h d)) = x (ix2 r (ownLane h d)) := by
  rw [mergePair_at, if_pos (by show 64 * (h.val % 2) + d.val < 64; rw [h0]; omega)]
theorem merge_odd (x y : FVec Ideal S256x128 .f32) (h : Fin 8) (h1 : h.val % 2 = 1) (r : Fin 256) (d : Fin 64) :
    mergePair x y (ix3 0 r (ownLane h d)) = y (ix2 r (ownLane h d)) := by
  rw [mergePair_at, if_neg (by show ¬64 * (h.val % 2) + d.val < 64; rw [h1]; omega)]

theorem outTile_eq (q : Vec Ideal S1x256x512 .bf16) (km vm : Vec Ideal S16x512 .bf16) (H : Fin 8 → Head Ideal) (r : Fin 256) (d : Fin 64) :
    ∀ h : Fin 8, outTile q km vm H (ix3 0 r (headLane h d)) = finished q km vm H h (ix2 r (ownLane h d)) := by
  intro h
  rw [← pairLane_own]
  show pieces (mergePair (finished q km vm H 6) (finished q km vm H 7)) (mergePair (finished q km vm H 4) (finished q km vm H 5))
    (mergePair (finished q km vm H 2) (finished q km vm H 3)) (mergePair (finished q km vm H 0) (finished q km vm H 1)) _ = _
  generalize finished q km vm H = f
  match h with
  | 0 => rw [pairLane_first _ 0 rfl, piece0]; exact merge_even _ _ 0 rfl r d
  | 1 => rw [pairLane_first _ 1 rfl, piece0]; exact merge_odd _ _ 1 rfl r d
  | 2 => rw [pairLane_eq _ 2 128 (by omega) rfl, piece1]; exact merge_even _ _ 2 rfl r d
  | 3 => rw [pairLane_eq _ 3 128 (by omega) rfl, piece1]; exact merge_odd _ _ 3 rfl r d
  | 4 => rw [pairLane_eq _ 4 256 (by omega) rfl, piece2]; exact merge_even _ _ 4 rfl r d
  | 5 => rw [pairLane_eq _ 5 256 (by omega) rfl, piece2]; exact merge_odd _ _ 5 rfl r d
  | 6 => rw [pairLane_eq _ 6 384 (by omega) rfl, piece3]; exact merge_even _ _ 6 rfl r d
  | 7 => rw [pairLane_eq _ 7 384 (by omega) rfl, piece3]; exact merge_odd _ _ 7 rfl r d

/-- The output tile of a point. -/
theorem outTile_at {i : grid0.Coords} {q : Vec Ideal S1x256x512 .bf16} {k v : Vec Ideal S1x2048x512 .bf16} {km vm : Vec Ideal S16x512 .bf16}
    {ζ : Fin 8 → Fin 256 → ℕ → ℝ} {W : ℕ → Fin 512 → EReal} (H : Reads q k v km vm ζ W) (h : Fin 8) (r : Fin 256) (d : Fin 64) :
    outTile q km vm (heads i q k v (i 2).val) (ix3 0 r (headLane h d))
      = ∑ p ∈ Finset.range (16 + 256 * (i 2).val + r.val),
          ((share (ζ h r) (16 + 256 * (i 2).val + r.val) p : ℝ) : EReal) * W p (headLane h d) := by
  rw [outTile_eq, finished_at H, pairLane_own]

end Cert.Proof.Attn

end
-- ==== Proof.Attn.RefCells.lean ====
/-
  The attention's reference read at one place of its arrays: the scores, the softplus, the mask, the weights and the result.
-/
module

public import proofs.«01_k».proof.Proof.Attn.Lanes
public import proofs.«01_k».proof.Proof.Gen.ReferenceIdeal.Read
public import Idealize.ShloMosaic.Lib.WordCmp

@[expose] public section

set_option maxRecDepth 16384

noncomputable section

namespace Cert.Proof.Attn

open Cert.ReferenceIdeal Cert.ReferenceIdeal.Gen Cert.ReferenceIdeal.Read
open Idealize.ShloMosaic Idealize.ShloMosaic.TcCoe

variable (Q K V : Vec Ideal S8x2048x512 .f32) (KM VM : Vec Ideal S16x512 .f32)

/-- The row at place `p` of batch `b`: one of the sixteen shared rows first, then the batch's own. -/
def rowAt (K : Vec Ideal S8x2048x512 .f32) (KM : Vec Ideal S16x512 .f32) (b : Fin 8) (p : ℕ) (x : Fin 512) : EReal :=
  if hp : p < 16 then KM (ix2 ⟨p, hp⟩ x) else if hq : p - 16 < 2048 then K (ix3 b ⟨p - 16, hq⟩ x) else 0

theorem lane_eq {h : Fin 8} {d : Fin 64} (hx : h.val * 64 + d.val < 512) : (⟨h.val * 64 + d.val, hx⟩ : Fin 512) = headLane h d :=
  Fin.ext (show h.val * 64 + d.val = 64 * h.val + d.val by omega)

/-- The queries by heads, -/
theorem refQ_at (b h : Fin 8) (s : Fin 2048) (d : Fin 64) :
    val_main_v7 (F := Ideal) Q (ix4 b h s d) = Q (ix3 b s (headLane h d)) := by
  pointwise [val_main_v7, val_main_v6]
  rw [lane_eq]

/-- the keys, -/
theorem refK_at (b h : Fin 8) (p : Fin 2064) (d : Fin 64) :
    val_main_v9 (F := Ideal) K KM (ix4 b h p d) = rowAt K KM b p.val (headLane h d) := by
  have e : val_main_v9 (F := Ideal) K KM (ix4 b h p d) = if hp : p.val < 16 then KM (ix2 ⟨p.val, hp⟩ (headLane h d))
      else K (ix3 b ⟨p.val - 16, by omega⟩ (headLane h d)) := by
    pointwise [val_main_v9, val_main_v8, val_main_v2, val_main_v1, val_main_v0]
    simp only [lane_eq]
  rw [e, rowAt]
  split
  · rfl
  · rw [dif_pos]

/-- and the values. -/
theorem refV_at (b h : Fin 8) (p : Fin 2064) (d : Fin 64) :
    val_main_v11 (F := Ideal) V VM (ix4 b h p d) = rowAt V VM b p.val (headLane h d) := by
  have e : val_main_v11 (F := Ideal) V VM (ix4 b h p d) = if hp : p.val < 16 then VM (ix2 ⟨p.val, hp⟩ (headLane h d))
      else V (ix3 b ⟨p.val - 16, by omega⟩ (headLane h d)) := by
    pointwise [val_main_v11, val_main_v10, val_main_v5, val_main_v4, val_main_v3]
    simp only [lane_eq]
  rw [e, rowAt]
  split
  · rfl
  · rw [dif_pos]

/-- One eighth, as both programs write it. -/
theorem eighth : Ideal.ofBits .f32 0x3E000000#32 = (((1 : ℝ) / 8 : ℝ) : EReal) := by
  simp [Ideal.ofBits, Ideal.ieee]
  norm_num [← EReal.coe_mul]

/-- A score. -/
theorem refScore_at (b h : Fin 8) (s : Fin 2048) (p : Fin 2064) : val_main_v14 (F := Ideal) Q K KM (ix4 b h s p)
    = (∑ d : Fin 64, Q (ix3 b s (headLane h d)) * rowAt K KM b p.val (headLane h d)) * (((1 : ℝ) / 8 : ℝ) : EReal) := by
  simp only [← refQ_at, ← refK_at]
  unfold val_main_v14 val_main_v12
  generalize val_main_v7 (F := Ideal) Q = A
  generalize val_main_v9 (F := Ideal) K KM = B
  rw [← eighth]
  pointwise [val_main_v13, val_main_cst]

/-- The softplus as the reference writes it: its argument compared with itself, as for a value that is no number. -/
theorem softplus_self {x y : EReal} : (if x ≠ x then x else y) = y := if_neg fun h => h rfl

/-- The softplus of a real score, -/
theorem refPlus_at {b h : Fin 8} {s : Fin 2048} {p : Fin 2064} {x : ℝ} (hx : val_main_v14 (F := Ideal) Q K KM (ix4 b h s p) = (x : EReal)) :
    val_main_call0_v1 (F := Ideal) Q K KM (ix4 b h s p) = ((sp x : ℝ) : EReal) := by
  revert hx
  unfold val_main_call0_v1 val_main_call0_call0_v4 val_main_call0_call0_v6 val_main_call0_call0_v11 val_main_call0_call0_v3 val_main_call0_call0_v1 val_main_call0_call0_v10 val_main_call0_call0_v9 val_main_call0_call0_v8 val_main_call0_call0_v7 val_main_call0_call0_v3 val_main_call0_v0 val_main_v24
  generalize val_main_v14 (F := Ideal) Q K KM = z
  intro hx
  pointwise [val_main_call0_call0_v0, val_main_call0_call0_v2, val_main_call0_call0_v5, val_main_call0_call0_cst]
  rw [softplus_self, neg_neg, hx]
  exact softplus_real x

/-- and of its negative. -/
theorem refMinus_at {b h : Fin 8} {s : Fin 2048} {p : Fin 2064} {x : ℝ} (hx : val_main_v14 (F := Ideal) Q K KM (ix4 b h s p) = (x : EReal)) :
    val_main_call3_v1 (F := Ideal) Q K KM (ix4 b h s p) = ((sp (-x) : ℝ) : EReal) := by
  revert hx
  unfold val_main_call3_v1 val_main_call3_call0_v4 val_main_call3_call0_v6 val_main_call3_call0_v11 val_main_call3_call0_v3 val_main_call3_call0_v1 val_main_call3_call0_v10 val_main_call3_call0_v9 val_main_call3_call0_v8 val_main_call3_call0_v7 val_main_call3_call0_v3 val_main_call3_v0
  generalize val_main_v14 (F := Ideal) Q K KM = z
  intro hx
  pointwise [val_main_call3_call0_v0, val_main_call3_call0_v2, val_main_call3_call0_v5, val_main_call3_call0_cst]
  rw [softplus_self, hx, ← EReal.coe_neg]
  exact softplus_real (-x)

/-- Row `s` attends to the places below `16 + s`: at the reverse sum -/
theorem refMask1_at (b h : Fin 8) (s : Fin 2048) (p : Fin 2064) (x y : EReal) :
    Scalar.select (val_main_call1_v1 (F := Ideal) (ix4 b h s p)) x y = if p.val < 16 + s.val then x else y := by
  have e : val_main_call1_v1 (F := Ideal) (ix4 b h s p) = IntOp.cmpi CmpIPredicate.slt (BitVec.ofNat 32 p.val) (BitVec.ofNat 32 (16 + s.val)) := by
    have a : BitVec.ofNat 32 (16 + s.val) = IntOp.addi (16#32) (BitVec.ofNat 32 s.val) := BitVec.ofNat_add 16 s.val
    rw [a]
    pointwise [val_main_call1_v1, val_main_v23, val_main_v21, val_main_v22, val_main_v20, val_main_v19, val_main_v18, val_main_v17, val_main_v16, val_main_c, val_main_v15]
  rw [e, WordCmp.cmpi_slt_ofNat (by omega) (by omega), select_ofBool]
  simp only [decide_eq_true_eq]

/-- and at the weights. -/
theorem refMask2_at (b h : Fin 8) (s : Fin 2048) (p : Fin 2064) (x y : EReal) :
    Scalar.select (val_main_call4_v1 (F := Ideal) (ix4 b h s p)) x y = if p.val < 16 + s.val then x else y := by
  rw [← refMask1_at b h s p x y]
  rfl

/-- The log of one minus the sigmoid, where the row attends, -/
theorem refLog_at (b h : Fin 8) (s : Fin 2048) (p : Fin 2064) : val_main_v26 (F := Ideal) Q K KM (ix4 b h s p)
    = if p.val < 16 + s.val then -val_main_call0_v1 (F := Ideal) Q K KM (ix4 b h s p) else 0 := by
  rw [← refMask1_at b h s p]
  unfold val_main_v26 val_main_v25
  generalize val_main_call0_v1 (F := Ideal) Q K KM = z
  generalize val_main_call1_v1 (F := Ideal) = w
  pointwise [val_main_call1_v2, val_main_call1_v0, val_main_cst_0]
  exact congrArg (Scalar.select _ _) Ideal.ofBits_zero_f32

/-- and the weight. -/
theorem refWeight_at (b h : Fin 8) (s : Fin 2048) (p : Fin 2064) : val_main_v32 (F := Ideal) Q K KM (ix4 b h s p)
    = if p.val < 16 + s.val then Ideal.exp (-val_main_call3_v1 (F := Ideal) Q K KM (ix4 b h s p)
        + (val_main_v27 (F := Ideal) Q K KM (ix4 b h s p) - val_main_v26 (F := Ideal) Q K KM (ix4 b h s p))) else 0 := by
  rw [← refMask2_at b h s p]
  unfold val_main_v32 val_main_v31 val_main_v30 val_main_v29 val_main_v28
  generalize val_main_call3_v1 (F := Ideal) Q K KM = z
  generalize val_main_call4_v1 (F := Ideal) = w
  generalize val_main_v27 (F := Ideal) Q K KM = z1
  generalize val_main_v26 (F := Ideal) Q K KM = z2
  pointwise [val_main_call4_v2, val_main_call4_v0, val_main_cst_1]
  exact congrArg (Scalar.select _ _) Ideal.ofBits_zero_f32

/-- The result: the weights against the values. -/
theorem refOut_at (b h : Fin 8) (s : Fin 2048) (d : Fin 64) : val_main_v36 (F := Ideal) Q K V KM VM (ix3 b s (headLane h d))
    = ∑ p : Fin 2064, val_main_v32 (F := Ideal) Q K KM (ix4 b h s p) * rowAt V VM b p.val (headLane h d) := by
  simp only [← refV_at]
  unfold val_main_v36 val_main_v35 val_main_v34 val_main_v33
  generalize val_main_v32 (F := Ideal) Q K KM = z
  generalize val_main_v11 (F := Ideal) V VM = w
  have eh : ∀ hx, (⟨(headLane h d).val / 64, hx⟩ : Fin 8) = h := fun _ => Fin.ext (show (64 * h.val + d.val) / 64 = h.val by omega)
  have ed : ∀ hx, (⟨(headLane h d).val % 64, hx⟩ : Fin 64) = d := fun _ => Fin.ext (show (64 * h.val + d.val) % 64 = d.val by omega)
  pointwise []
  simp only [eh, ed]

end Cert.Proof.Attn

end
-- ==== Proof.Attn.Ref.lean ====
/-
  The attention's reference as a whole: where the scores are real numbers, a result row is the sum of the values of the places it
  attends to, each with the share `exp (ζ p - ∑ softplus (ζ p'))` of its place.
-/
module

public import proofs.«01_k».proof.Proof.Attn.RefCells
public import proofs.«01_k».proof.Proof.Attn.Tiles

@[expose] public section

set_option maxRecDepth 16384

noncomputable section

namespace Cert.Proof.Attn

open Cert.ReferenceIdeal Cert.ReferenceIdeal.Gen Cert.ReferenceIdeal.Read
open Idealize.ShloMosaic Idealize.ShloMosaic.TcCoe

/-! ## The sum over a window -/

/-- A sum folded over a list. -/
theorem foldl_add {ι : Type*} (L : List ι) (g : ι → EReal) (a : EReal) : L.foldl (fun r n => r + g n) a = a + (L.map g).sum := by
  induction L generalizing a with
  | nil => rw [List.foldl_nil, List.map_nil, List.sum_nil, add_zero]
  | cons n L ih => rw [List.foldl_cons, ih, List.map_cons, List.sum_cons, add_assoc]

/-- A window over the whole last axis of four. -/
abbrev Wn (n : ℕ) : Shape := ⟨4, ![1, 1, 1, n]⟩

/-- A place of that window, by its last coordinate. -/
theorem window_eq {n : ℕ} (w : (Wn n).Idx) : w = ix4 (0 : Fin 1) (0 : Fin 1) (0 : Fin 1) (w 3 : Fin n) := by
  have h (u : Fin 1) : u = 0 := Subsingleton.elim u 0
  exact (eq_ix4 w).trans (congr (congr (congr (congrArg ix4 (h (w 0))) (h (w 1))) (h (w 2))) rfl)

/-- A sum over the window is one over the last axis. -/
theorem sum_window {n : ℕ} (g : (Wn n).Idx → EReal) :
    ∑ i : Fin (Wn n).numel, g ((Wn n).rowMajor.symm i) = ∑ i : Fin n, g (ix4 (0 : Fin 1) (0 : Fin 1) (0 : Fin 1) i) := by
  rw [Equiv.sum_comp (Wn n).rowMajor.symm g]
  exact Finset.sum_bij' (fun w _ => (w 3 : Fin n)) (fun i _ => ix4 (0 : Fin 1) (0 : Fin 1) (0 : Fin 1) i) (fun _ _ => Finset.mem_univ _)
    (fun _ _ => Finset.mem_univ _) (fun w _ => (window_eq w).symm) (fun _ _ => rfl) (fun w _ => congrArg g (window_eq w))

/-- The sums over the windows of a last axis that run past its end: the entries from each place on. -/
theorem reverse_sum {A B C n : ℕ} (hi : Fin 4 → ℕ) (x : (⟨4, ![A, B, C, n]⟩ : Shape).Idx → EReal) (u : Shape) (init : u.Idx → EReal)
    (hw : (⟨4, ![A, B, C, n]⟩ : Shape).ReduceWindows ![1, 1, 1, n] ![1, 1, 1, 1] ![0, 0, 0, 0] hi ⟨4, ![A, B, C, n]⟩) (hu : 0 < u.numel)
    (h0 : init (Shape.Idx.first hu) = 0) (b : Fin A) (h : Fin B) (s : Fin C) (p : Fin n) :
    Host.reduceWindow (· + ·) ![1, 1, 1, n] ![1, 1, 1, 1] ![0, 0, 0, 0] hi x init hw hu (ix4 b h s p)
      = ∑ i : Fin n, if hi : p.val + i.val < n then x (ix4 b h s ⟨p.val + i.val, hi⟩) else 0 := by
  unfold Host.reduceWindow
  rw [h0]
  refine (foldl_add (List.finRange (Wn n).numel) _ _).trans ?_
  rw [zero_add, ← List.ofFn_eq_map, List.sum_ofFn]
  let q (w : (Wn n).Idx) (a : Fin 4) : ℕ := ((ix4 b h s p : (⟨4, ![A, B, C, n]⟩ : Shape).Idx) a).val * (![1, 1, 1, 1] : Fin 4 → ℕ) a + (w a).val
  refine (sum_window fun w => @dite EReal (∀ a, (![0, 0, 0, 0] : Fin 4 → ℕ) a ≤ q w a ∧ q w a - (![0, 0, 0, 0] : Fin 4 → ℕ) a < (⟨4, ![A, B, C, n]⟩ : Shape).size a)
    (Nat.decidableForallFin _) (fun hin => x (fun a => ⟨q w a - (![0, 0, 0, 0] : Fin 4 → ℕ) a, (hin a).2⟩)) fun _ => 0).trans (Finset.sum_congr rfl fun i _ => ?_)
  by_cases hi : p.val + i.val < n
  · rw [dif_pos hi, dif_pos]
    · refine congrArg x ((eq_ix4 _).trans ?_)
      refine congr (congr (congr (congrArg ix4 (Fin.ext ?_)) (Fin.ext ?_)) (Fin.ext ?_)) (Fin.ext ?_)
      · show b.val * 1 + 0 - 0 = b.val; omega
      · show h.val * 1 + 0 - 0 = h.val; omega
      · show s.val * 1 + 0 - 0 = s.val; omega
      · show p.val * 1 + i.val - 0 = p.val + i.val; omega
    · intro a
      match a with
      | 0 => exact ⟨Nat.zero_le _, by show b.val * 1 + 0 - 0 < A; omega⟩
      | 1 => exact ⟨Nat.zero_le _, by show h.val * 1 + 0 - 0 < B; omega⟩
      | 2 => exact ⟨Nat.zero_le _, by show s.val * 1 + 0 - 0 < C; omega⟩
      | 3 => exact ⟨Nat.zero_le _, by show p.val * 1 + i.val - 0 < n; omega⟩
  · rw [dif_neg hi, dif_neg]
    intro hin
    have : p.val * 1 + i.val - 0 < n := (hin 3).2
    omega

variable (Q K V : Vec Ideal S8x2048x512 .f32) (KM VM : Vec Ideal S16x512 .f32)

/-- The reference's reverse sum: the entries from place `p` on. -/
theorem refSum_at (b h : Fin 8) (s : Fin 2048) (p : Fin 2064) : val_main_v27 (F := Ideal) Q K KM (ix4 b h s p)
    = ∑ i : Fin 2064, if hi : p.val + i.val < 2064 then val_main_v26 (F := Ideal) Q K KM (ix4 b h s ⟨p.val + i.val, hi⟩) else 0 := by
  unfold val_main_v27
  generalize val_main_v26 (F := Ideal) Q K KM = x
  unfold Host.reduceWindowAdd
  rw [Ideal.hostReduceWindowAdd_def]
  unfold Ideal.hostReduceWindowAdd
  exact reverse_sum ![0, 0, 0, 2063] x ⟨0, ![]⟩ (fun _ => val_main_call2_v0 (F := Ideal) (Shape.Idx.first h_S_)) _ _ Ideal.ofBits_zero_f32 b h s p

/-! ## With real scores -/

/-- The score of place `p` for row `s`, head `h` of batch `b`. -/
def zeta (b h : Fin 8) (s : Fin 2048) (p : ℕ) : ℝ :=
  (∑ d : Fin 64, (Q (ix3 b s (headLane h d))).toReal * (rowAt K KM b p (headLane h d)).toReal) * (1 / 8)

/-- The queries and the keys are real numbers. -/
structure AllReal : Prop where
  q : ∀ i, ((Q i).toReal : EReal) = Q i
  k : ∀ i, ((K i).toReal : EReal) = K i
  km : ∀ i, ((KM i).toReal : EReal) = KM i

variable {Q K KM}

theorem rowAt_real (H : AllReal Q K KM) (b : Fin 8) (p : ℕ) (x : Fin 512) : ((rowAt K KM b p x).toReal : EReal) = rowAt K KM b p x := by
  unfold rowAt
  split
  · exact H.km _
  · split
    · exact H.k _
    · rw [EReal.toReal_zero, EReal.coe_zero]

/-- A query against a key is a real number. -/
theorem dot_real (H : AllReal Q K KM) (b h : Fin 8) (s : Fin 2048) (p : ℕ) :
    ∑ d : Fin 64, Q (ix3 b s (headLane h d)) * rowAt K KM b p (headLane h d)
      = ((∑ d : Fin 64, (Q (ix3 b s (headLane h d))).toReal * (rowAt K KM b p (headLane h d)).toReal : ℝ) : EReal) := by
  rw [← sum_real]
  refine Finset.sum_congr rfl fun d _ => ?_
  rw [EReal.coe_mul, H.q, rowAt_real H]

/-- The reference's scores are those numbers, -/
theorem refScore_real (H : AllReal Q K KM) (b h : Fin 8) (s : Fin 2048) (p : Fin 2064) :
    val_main_v14 (F := Ideal) Q K KM (ix4 b h s p) = ((zeta Q K KM b h s p.val : ℝ) : EReal) := by
  rw [refScore_at, dot_real H, ← EReal.coe_mul]
  rfl

/-- its logs their softplus, -/
theorem refLog_real (H : AllReal Q K KM) (b h : Fin 8) (s : Fin 2048) (p : Fin 2064) : val_main_v26 (F := Ideal) Q K KM (ix4 b h s p)
    = ((if p.val < 16 + s.val then -sp (zeta Q K KM b h s p.val) else 0 : ℝ) : EReal) := by
  rw [refLog_at, refPlus_at Q K KM (refScore_real H b h s p)]
  split
  · rw [EReal.coe_neg]
  · rw [EReal.coe_zero]

/-- the reverse sum their total, -/
theorem refSum_real (H : AllReal Q K KM) (b h : Fin 8) (s : Fin 2048) (p : Fin 2064) : val_main_v27 (F := Ideal) Q K KM (ix4 b h s p)
    = ((-total (zeta Q K KM b h s) (16 + s.val) p.val : ℝ) : EReal) := by
  have e (i : Fin 2064) : (if hi : p.val + i.val < 2064 then val_main_v26 (F := Ideal) Q K KM (ix4 b h s ⟨p.val + i.val, hi⟩) else 0)
      = (((fun p' => if p' < 16 + s.val then -sp (zeta Q K KM b h s p') else 0) (p.val + i.val) : ℝ) : EReal) := by
    show _ = ((if p.val + i.val < 16 + s.val then -sp (zeta Q K KM b h s (p.val + i.val)) else 0 : ℝ) : EReal)
    split
    · rw [refLog_real H]
    · rw [if_neg (by omega), EReal.coe_zero]
  rw [refSum_at, Finset.sum_congr rfl fun i _ => e i, sum_real,
    sum_from 2064 p.val (fun p' => if p' < 16 + s.val then -sp (zeta Q K KM b h s p') else 0), ← Finset.sum_filter, total, ← Finset.sum_neg_distrib]
  congr 2
  ext p'
  simp only [Finset.mem_filter, Finset.mem_Ico]
  omega

/-- and its weights the shares. -/
theorem refWeight_real (H : AllReal Q K KM) (b h : Fin 8) (s : Fin 2048) (p : Fin 2064) : val_main_v32 (F := Ideal) Q K KM (ix4 b h s p)
    = if p.val < 16 + s.val then ((share (zeta Q K KM b h s) (16 + s.val) p.val : ℝ) : EReal) else 0 := by
  rw [refWeight_at]
  split
  · next hp =>
    rw [refMinus_at Q K KM (refScore_real H b h s p), refSum_real H, refLog_real H, if_pos hp, ← EReal.coe_neg, ← EReal.coe_sub,
      ← EReal.coe_add, Ideal.exp_coe, ← sp_neg, share]
    congr 2
    ring
  · rfl

/-- The reference's result. -/
theorem refOut_real (H : AllReal Q K KM) (b h : Fin 8) (s : Fin 2048) (d : Fin 64) :
    val_main_v36 (F := Ideal) Q K V KM VM (ix3 b s (headLane h d))
      = ∑ p ∈ Finset.range (16 + s.val), ((share (zeta Q K KM b h s) (16 + s.val) p : ℝ) : EReal) * rowAt V VM b p (headLane h d) := by
  have e (p : Fin 2064) : val_main_v32 (F := Ideal) Q K KM (ix4 b h s p) * rowAt V VM b p.val (headLane h d)
      = (fun p' => if p' < 16 + s.val then ((share (zeta Q K KM b h s) (16 + s.val) p' : ℝ) : EReal) * rowAt V VM b p' (headLane h d) else 0) p.val := by
    show _ = if p.val < 16 + s.val then ((share (zeta Q K KM b h s) (16 + s.val) p.val : ℝ) : EReal) * rowAt V VM b p.val (headLane h d) else 0
    rw [refWeight_real H]
    split
    · rfl
    · rw [zero_mul]
  rw [refOut_at, Finset.sum_congr rfl fun p _ => e p, Fin.sum_univ_eq_sum_range (fun p' => if p' < 16 + s.val then
      ((share (zeta Q K KM b h s) (16 + s.val) p' : ℝ) : EReal) * rowAt V VM b p' (headLane h d) else 0) 2064, ← Finset.sum_filter]
  congr 1
  ext p'
  simp only [Finset.mem_filter, Finset.mem_range]
  omega

end Cert.Proof.Attn

end
-- ==== Proof.Attn.Blocks.lean ====
/-
  The attention kernel's blocks: where each window's block lies in its array, and what the input blocks hold of the arguments.
-/
module

public import proofs.«01_k».proof.Proof.Attn.Run
public import proofs.«01_k».proof.Proof.Attn.Tile
public import proofs.«01_k».proof.Proof.Attn.Ref

@[expose] public section

set_option maxRecDepth 16384

noncomputable section

namespace Cert.Proof.Attn

open Cert.KernelIdeal Cert.KernelIdeal.Gen Idealize.ShloMosaic Idealize.ShloMosaic.TcCoe Idealize.SL.Sem

/-! ## The grid: eight batches of eight tiles of 256 rows -/

/-- The batch of point `t`, -/
def batch (t : Fin (cfg0 (F := Ideal)).N) : Fin 8 := ⟨t.val / 8, by have := t.isLt; have : (cfg0 (F := Ideal)).N = 64 := rfl; omega⟩

/-- and the sequence row of row `r` of its tile. -/
def seqAt (t : Fin (cfg0 (F := Ideal)).N) (r : Fin 256) : Fin 2048 := ⟨t.val % 8 * 256 + r.val, by omega⟩

/-- Every row of every batch is some point's row. -/
theorem at_place (b : Fin 8) (s : Fin 2048) : ∃ (t : Fin (cfg0 (F := Ideal)).N) (r : Fin 256), batch t = b ∧ seqAt t r = s :=
  ⟨⟨8 * b.val + s.val / 256, by show _ < 64; omega⟩, ⟨s.val % 256, by omega⟩,
    Fin.ext (by show (8 * b.val + s.val / 256) / 8 = b.val; omega),
    Fin.ext (by show (8 * b.val + s.val / 256) % 8 * 256 + s.val % 256 = s.val; omega)⟩

/-- The tile is the grid's last coordinate. -/
theorem tile_coord : ∀ t : Fin grid0.N, (grid0.coords t 2).val = t.val % 8 := by decide +kernel

theorem wq : ∀ t : Fin grid0.N, win0_0.index t 0 = t.val / 8 ∧ win0_0.index t 1 = t.val % 8 ∧ win0_0.index t 2 = 0 := by decide +kernel
theorem wk : ∀ t : Fin grid0.N, win0_1.index t 0 = t.val / 8 ∧ win0_1.index t 1 = 0 ∧ win0_1.index t 2 = 0 := by decide +kernel
theorem wv : ∀ t : Fin grid0.N, win0_2.index t 0 = t.val / 8 ∧ win0_2.index t 1 = 0 ∧ win0_2.index t 2 = 0 := by decide +kernel
theorem wkm : ∀ t : Fin grid0.N, win0_3.index t 0 = 0 ∧ win0_3.index t 1 = 0 := by decide +kernel
theorem wvm : ∀ t : Fin grid0.N, win0_4.index t 0 = 0 ∧ win0_4.index t 1 = 0 := by decide +kernel
theorem wout : ∀ t : Fin grid0.N, win0_5.index t 0 = t.val / 8 ∧ win0_5.index t 1 = t.val % 8 ∧ win0_5.index t 2 = 0 := by decide +kernel

theorem embq (t : Fin (cfg0 (F := Ideal)).N) (r : Fin 256) (x : Fin 512) : (win0_0.rect t).emb (ix3 0 r x) = ix3 (batch t) (seqAt t r) x :=
  eq_cell (by rw [Pipeline.Window.rect_emb_val_off]; show win0_0.index t 0 * 1 + 0 = t.val / 8; rw [(wq t).1]; omega)
    (by rw [Pipeline.Window.rect_emb_val_off]; show win0_0.index t 1 * 256 + r.val = t.val % 8 * 256 + r.val; rw [(wq t).2.1])
    (by rw [Pipeline.Window.rect_emb_val_off]; show win0_0.index t 2 * 512 + x.val = _; rw [(wq t).2.2]; omega)

theorem embk (t : Fin (cfg0 (F := Ideal)).N) (p : Fin 2048) (x : Fin 512) : (win0_1.rect t).emb (ix3 0 p x) = ix3 (batch t) p x :=
  eq_cell (by rw [Pipeline.Window.rect_emb_val_off]; show win0_1.index t 0 * 1 + 0 = t.val / 8; rw [(wk t).1]; omega)
    (by rw [Pipeline.Window.rect_emb_val_off]; show win0_1.index t 1 * 2048 + p.val = _; rw [(wk t).2.1]; omega)
    (by rw [Pipeline.Window.rect_emb_val_off]; show win0_1.index t 2 * 512 + x.val = _; rw [(wk t).2.2]; omega)

theorem embv (t : Fin (cfg0 (F := Ideal)).N) (p : Fin 2048) (x : Fin 512) : (win0_2.rect t).emb (ix3 0 p x) = ix3 (batch t) p x :=
  eq_cell (by rw [Pipeline.Window.rect_emb_val_off]; show win0_2.index t 0 * 1 + 0 = t.val / 8; rw [(wv t).1]; omega)
    (by rw [Pipeline.Window.rect_emb_val_off]; show win0_2.index t 1 * 2048 + p.val = _; rw [(wv t).2.1]; omega)
    (by rw [Pipeline.Window.rect_emb_val_off]; show win0_2.index t 2 * 512 + x.val = _; rw [(wv t).2.2]; omega)

/-- A two-axis index from its coordinates. -/
theorem eq_pair {A B : ℕ} {a : Fin A} {b : Fin B} {y : (⟨2, ![A, B]⟩ : Shape).Idx} (h0 : (y 0).val = a.val) (h1 : (y 1).val = b.val) :
    y = ix2 a b := (eq_ix2 y).trans (congrArg₂ ix2 (Fin.ext h0) (Fin.ext h1))

theorem embkm (t : Fin (cfg0 (F := Ideal)).N) (l : Fin 16) (x : Fin 512) : (win0_3.rect t).emb (ix2 l x) = ix2 l x :=
  eq_pair (by rw [Pipeline.Window.rect_emb_val_off]; show win0_3.index t 0 * 16 + l.val = _; rw [(wkm t).1]; omega)
    (by rw [Pipeline.Window.rect_emb_val_off]; show win0_3.index t 1 * 512 + x.val = _; rw [(wkm t).2]; omega)

theorem embvm (t : Fin (cfg0 (F := Ideal)).N) (l : Fin 16) (x : Fin 512) : (win0_4.rect t).emb (ix2 l x) = ix2 l x :=
  eq_pair (by rw [Pipeline.Window.rect_emb_val_off]; show win0_4.index t 0 * 16 + l.val = _; rw [(wvm t).1]; omega)
    (by rw [Pipeline.Window.rect_emb_val_off]; show win0_4.index t 1 * 512 + x.val = _; rw [(wvm t).2]; omega)

theorem embout (t : Fin (cfg0 (F := Ideal)).N) (r : Fin 256) (x : Fin 512) : (win0_5.rect t).emb (ix3 0 r x) = ix3 (batch t) (seqAt t r) x :=
  eq_cell (by rw [Pipeline.Window.rect_emb_val_off]; show win0_5.index t 0 * 1 + 0 = t.val / 8; rw [(wout t).1]; omega)
    (by rw [Pipeline.Window.rect_emb_val_off]; show win0_5.index t 1 * 256 + r.val = t.val % 8 * 256 + r.val; rw [(wout t).2.1])
    (by rw [Pipeline.Window.rect_emb_val_off]; show win0_5.index t 2 * 512 + x.val = _; rw [(wout t).2.2]; omega)

/-! ## The host part -/

/-- The queries as the host part hands them over: flattened, scaled by one eighth and put back. -/
theorem scaled_at (x : Vec Ideal S8x2048x512 .f32) (b : Fin 8) (s : Fin 2048) (e : Fin 512) :
    (shapeCast S8x2048x512 (truncf (F := Ideal) .bf16 (mulf (F := Ideal) (shapeCast S16384x512 x shapeCasts_S8x2048x512_S16384x512)
      (broadcastInDim S16384x512 ![] bcast_S_S16384x512 (constant (F := Ideal) S_ .f32 0x3E000000#32) : Vec Ideal S16384x512 .f32)) bitsLt_bf16_f32)
      shapeCasts_S16384x512_S8x2048x512 : Vec Ideal S8x2048x512 .bf16) (ix3 b s e) = x (ix3 b s e) * (((1 : ℝ) / 8 : ℝ) : EReal) := by
  rw [← eighth]
  pointwise []

/-- The keys and the values, flattened and put back. -/
theorem flat_back (x : Vec Ideal S8x2048x512 .f32) (b : Fin 8) (s : Fin 2048) (e : Fin 512) :
    (shapeCast S8x2048x512 (truncf (F := Ideal) .bf16 (shapeCast S16384x512 x shapeCasts_S8x2048x512_S16384x512 : Vec Ideal S16384x512 .f32) bitsLt_bf16_f32)
      shapeCasts_S16384x512_S8x2048x512 : Vec Ideal S8x2048x512 .bf16) (ix3 b s e) = x (ix3 b s e) := by
  pointwise []

variable (m : (ℓ : Loc nD τ sig) → Buf (Elt Ideal) ℓ)

/-! The arguments, as the reference reads them. -/

abbrev QA (c : Dev nD) : Vec Ideal S8x2048x512 .f32 := m ((c : Thread nD τ).loc main_arg0)
abbrev KA (c : Dev nD) : Vec Ideal S8x2048x512 .f32 := m ((c : Thread nD τ).loc main_arg1)
abbrev VA (c : Dev nD) : Vec Ideal S8x2048x512 .f32 := m ((c : Thread nD τ).loc main_arg2)
abbrev KMA (c : Dev nD) : Vec Ideal S16x512 .f32 := m ((c : Thread nD τ).loc main_arg3)
abbrev VMA (c : Dev nD) : Vec Ideal S16x512 .f32 := m ((c : Thread nD τ).loc main_arg4)

theorem iblk_q (c : Dev nD) (t : Fin (cfg0 (F := Ideal)).N) (r : Fin 256) (x : Fin 512) :
    (iblk m c 0 t : Vec Ideal S1x256x512 .bf16) (ix3 0 r x) = QA m c (ix3 (batch t) (seqAt t r) x) * (((1 : ℝ) / 8 : ℝ) : EReal) := by
  show (V m c main_v10 : Vec Ideal S8x2048x512 .bf16) ((win0_0.rect t).emb (ix3 0 r x)) = _
  rw [embq]
  exact scaled_at (QA m c) _ _ _

theorem iblk_k (c : Dev nD) (t : Fin (cfg0 (F := Ideal)).N) (p : Fin 2048) (x : Fin 512) :
    (iblk m c 1 t : Vec Ideal S1x2048x512 .bf16) (ix3 0 p x) = KA m c (ix3 (batch t) p x) := by
  show (V m c main_v11 : Vec Ideal S8x2048x512 .bf16) ((win0_1.rect t).emb (ix3 0 p x)) = _
  rw [embk]
  exact flat_back (KA m c) _ _ _

theorem iblk_v (c : Dev nD) (t : Fin (cfg0 (F := Ideal)).N) (p : Fin 2048) (x : Fin 512) :
    (iblk m c 2 t : Vec Ideal S1x2048x512 .bf16) (ix3 0 p x) = VA m c (ix3 (batch t) p x) := by
  show (V m c main_v12 : Vec Ideal S8x2048x512 .bf16) ((win0_2.rect t).emb (ix3 0 p x)) = _
  rw [embv]
  exact flat_back (VA m c) _ _ _

theorem iblk_km (c : Dev nD) (t : Fin (cfg0 (F := Ideal)).N) (l : Fin 16) (x : Fin 512) :
    (iblk m c 3 t : Vec Ideal S16x512 .bf16) (ix2 l x) = KMA m c (ix2 l x) := by
  show (V m c main_v8 : Vec Ideal S16x512 .bf16) ((win0_3.rect t).emb (ix2 l x)) = _
  rw [embkm]; rfl

theorem iblk_vm (c : Dev nD) (t : Fin (cfg0 (F := Ideal)).N) (l : Fin 16) (x : Fin 512) :
    (iblk m c 4 t : Vec Ideal S16x512 .bf16) (ix2 l x) = VMA m c (ix2 l x) := by
  show (V m c main_v9 : Vec Ideal S16x512 .bf16) ((win0_4.rect t).emb (ix2 l x)) = _
  rw [embvm]; rfl

/-! ## A point's blocks, as the tile reads them -/

/-- The batch's own row is at its place after the sixteen, -/
theorem rowAt_own (K : Vec Ideal S8x2048x512 .f32) (KM : Vec Ideal S16x512 .f32) (b : Fin 8) (p : Fin 2048) (x : Fin 512) :
    rowAt K KM b (16 + p.val) x = K (ix3 b p x) := by
  have e : ∀ hq, (⟨16 + p.val - 16, hq⟩ : Fin 2048) = p := fun _ => Fin.ext (show 16 + p.val - 16 = p.val by omega)
  rw [rowAt, dif_neg (by omega), dif_pos (by omega), e]

/-- and the shared ones are the first. -/
theorem rowAt_shared (K : Vec Ideal S8x2048x512 .f32) (KM : Vec Ideal S16x512 .f32) (b : Fin 8) (l : Fin 16) (x : Fin 512) :
    rowAt K KM b l.val x = KM (ix2 l x) := by
  rw [rowAt, dif_pos l.isLt]

/-- The scale may be taken out of the score. -/
theorem scaled_score {Q K : Vec Ideal S8x2048x512 .f32} {KM : Vec Ideal S16x512 .f32} (H : AllReal Q K KM) (b h : Fin 8) (s : Fin 2048) (p : ℕ) :
    ∑ d : Fin 64, Q (ix3 b s (headLane h d)) * (((1 : ℝ) / 8 : ℝ) : EReal) * rowAt K KM b p (headLane h d)
      = ((zeta Q K KM b h s p : ℝ) : EReal) := by
  rw [zeta, Finset.sum_mul, ← sum_real]
  refine Finset.sum_congr rfl fun d _ => ?_
  rw [EReal.coe_mul, EReal.coe_mul, H.q, rowAt_real H, mul_right_comm]

/-- Point `t` reads the scores of its batch and its rows. -/
theorem reads {c : Dev nD} (H : AllReal (QA m c) (KA m c) (KMA m c)) (t : Fin (cfg0 (F := Ideal)).N) :
    Reads (iblk m c 0 t) (iblk m c 1 t) (iblk m c 2 t) (iblk m c 3 t) (iblk m c 4 t)
      (fun h r p => zeta (QA m c) (KA m c) (KMA m c) (batch t) h (seqAt t r) p) (fun p x => rowAt (VA m c) (VMA m c) (batch t) p x) where
  row h r p := by
    rw [← scaled_score H]
    refine Finset.sum_congr rfl fun d _ => ?_
    rw [iblk_q, iblk_k, rowAt_own]
  extra h r l := by
    rw [← scaled_score H]
    refine Finset.sum_congr rfl fun d _ => ?_
    rw [iblk_q, iblk_km, rowAt_shared]
  value p e := by rw [iblk_v, rowAt_own]
  extraValue l e := by rw [iblk_vm, rowAt_shared]

end Cert.Proof.Attn

end
-- ==== Proof.Attn.Value.lean ====
/-
  The attention's result array: where the queries and the keys are real numbers, it is the reference's.
-/
module

public import proofs.«01_k».proof.Proof.Attn.Blocks

@[expose] public section

set_option maxRecDepth 16384

noncomputable section

namespace Cert.Proof.Attn

open Cert.KernelIdeal Cert.KernelIdeal.Gen Idealize.ShloMosaic Idealize.ShloMosaic.TcCoe Idealize.SL.Sem
open Cert.ReferenceIdeal.Read (val_main_v36)

variable (m : (ℓ : Loc nD τ sig) → Buf (Elt Ideal) ℓ)

/-- Every column is some head's lane. -/
theorem at_lane (x : Fin 512) : ∃ (h : Fin 8) (d : Fin 64), headLane h d = x :=
  ⟨⟨x.val / 64, by omega⟩, ⟨x.val % 64, by omega⟩, Fin.ext (show 64 * (x.val / 64) + x.val % 64 = x.val by omega)⟩

/-- Every entry of a tile, by its row and its column. -/
theorem at_tile (y : S1x256x512.Idx) : ∃ (r : Fin 256) (x : Fin 512), y = ix3 (0 : Fin 1) r x :=
  ⟨y 1, y 2, (eq_ix3 y).trans (congrArg (fun a => ix3 a (y 1) (y 2)) (Subsingleton.elim (α := Fin 1) (y 0) 0))⟩

/-- Point `t`'s tile holds the reference's rows. -/
theorem tileOut_at {c : Dev nD} (H : AllReal (QA m c) (KA m c) (KMA m c)) (t : Fin (cfg0 (F := Ideal)).N) (r : Fin 256) (x : Fin 512) :
    tileOut m c t (ix3 0 r x) = val_main_v36 (F := Ideal) (QA m c) (KA m c) (VA m c) (KMA m c) (VMA m c) (ix3 (batch t) (seqAt t r) x) := by
  obtain ⟨h, d, rfl⟩ := at_lane x
  have e : 16 + 256 * (grid0.coords t 2).val + r.val = 16 + (seqAt t r).val := by
    rw [tile_coord]; show 16 + 256 * (t.val % 8) + r.val = 16 + (t.val % 8 * 256 + r.val); omega
  unfold tileOut
  rw [outTile_at (reads m H t), e, refOut_real (V := VA m c) (VM := VMA m c) H]

/-- The result array. -/
theorem arr_out {c : Dev nD} (H : AllReal (QA m c) (KA m c) (KMA m c)) : (dats m 0 c).arrAt 5 (cfg0 (F := Ideal)).N
    = val_main_v36 (F := Ideal) (QA m c) (KA m c) (VA m c) (KMA m c) (VMA m c) := by
  refine (dats m 0 c).arrAt_eq_of_cover 5 _ (fun t _ => ?_) (fun i => ?_)
  · show (cfg0.win 5).cut (grid0.coords t) ((dats m 0 c).after 5 t) = _
    rw [after_out]
    funext y
    obtain ⟨r, x, rfl⟩ := at_tile y
    show tileOut m c t (ix3 0 r x) = val_main_v36 (F := Ideal) _ _ _ _ _ ((win0_5.rect t).emb (ix3 0 r x))
    rw [embout, tileOut_at m H]
  · obtain ⟨b, s, x, rfl⟩ : ∃ (b : Fin 8) (s : Fin 2048) (x : Fin 512), i = ix3 b s x := ⟨i 0, i 1, i 2, eq_ix3 i⟩
    obtain ⟨t, r, rfl, rfl⟩ := at_place b s
    refine ⟨t, flush0_5 t, ?_⟩
    rw [← embout]
    exact View.emb_mem_set ((cfg0.win 5).blk t).view (ix3 0 r x)

end Cert.Proof.Attn

end
-- ==== Proof.Attn.Finite.lean ====
/-
  The attention's precondition: the predicate's side conditions, and what it says of the arguments: the queries and both kinds of
  keys are real numbers.
-/
module

public import proofs.«01_k».proof.Defs
public import proofs.«01_k».proof.Proof.Attn.Ref
public import Idealize.ShloMosaic.Lib.ReduceAll
public import Idealize.ShloMosaic.Lib.KernelVsHost

@[expose] public section

set_option maxRecDepth 16384

noncomputable section

namespace Cert.Proof.Attn

open Cert.Pre_finite_scores Idealize.ShloMosaic Idealize.ShloMosaic.TcCoe

/-- The shapes in the predicate fit. -/
instance finiteFacts : Cert.Pre_finite_scores.Facts where
  bcast_S_S8x2048x512 := by decide
  reducesTo_S8x2048x512_S_d0_1_2 := by decide
  h_S_ := by decide
  bcast_S_S16x512 := by decide
  reducesTo_S16x512_S_d0_1 := by decide

/-- A number whose size is below infinity is real. -/
theorem real_of_lt {x : EReal} (h : FloatOps.cmpf (F := Ideal) (φ := .f32) .olt (FloatOps.hostAbsf x) (FloatOps.ofBits (F := Ideal) .f32 0x7F800000#32) = 1#1) :
    ((x.toReal : ℝ) : EReal) = x := by
  rw [← Ideal.xori_weird_eq_hostAbsf_olt_inf] at h
  have hw : ¬(x = ⊤ ∨ x = ⊥) := by
    intro hx
    have e : FloatOps.weird (F := Ideal) x = BitVec.ofBool (decide (x = ⊤ ∨ x = ⊥)) := rfl
    rw [e, decide_eq_true hx] at h
    exact absurd h (by decide)
  push Not at hw
  exact EReal.coe_toReal hw.1 hw.2

/-- An array all of whose entries' sizes are below infinity is real. -/
theorem real_of_all {s : Shape} {axes : List (Fin s.rank)} (x : FVec Ideal s .f32) (hb : S_.BroadcastsInDim s ![]) (hr : s.ReducesTo axes S_) (hu : 0 < S_.numel)
    (h : Host.reduce IntOp.andi (cmpf .olt (Host.absf x) (broadcastInDim s ![] hb (constant (F := Ideal) S_ .f32 0x7F800000#32))) (constantI S_ 1 1#1) hr hu ix0 = 1#1)
    (i : s.Idx) : (((x i : EReal).toReal : ℝ) : EReal) = x i :=
  haveI : Subsingleton S_.Idx := ⟨fun a b => funext fun k => k.elim0⟩
  real_of_lt (Host.reduce_andi_all _ _ hr hu ix0 h i)

/-- The predicate read back. -/
theorem real_of_pre {q k v : FVec Ideal S8x2048x512 .f32} {km vm : FVec Ideal S16x512 .f32}
    (h : Cert.Pre_finite_scores.fn (F := Ideal) q k v km vm = fun _ => 1#1) : AllReal q k km := by
  have e := congrFun h ix0
  obtain ⟨e, hkm⟩ := IntOp.andi_eq_one.1 e
  obtain ⟨hq, hk⟩ := IntOp.andi_eq_one.1 e
  exact ⟨fun i => real_of_all q _ _ _ hq i, fun i => real_of_all k _ _ _ hk i, fun i => real_of_all km _ _ _ hkm i⟩

end Cert.Proof.Attn

end
-- ==== Proof.Attn.Claim.lean ====
/-
  The attention's value claim: over the reals extended by ±∞, where the queries and the keys are real, the kernel and the
  reference end with the same result and leave their arguments as they were.
-/
module

public import proofs.«01_k».proof.Proof.Attn.Value
public import proofs.«01_k».proof.Proof.Attn.Finite
public import proofs.«01_k».proof.Proof.Gen.ReferenceIdeal.Run

@[expose] public section

noncomputable section

namespace Cert.Proof.Attn

open Idealize.ShloMosaic Idealize.ShloMosaic.TcCoe Idealize.SL.Sem
open Cert.ReferenceIdeal.Read

/-- The result is the reference's, in both programs. -/
theorem algebraic : Cert.algebraic_KernelIdeal_ReferenceIdeal_pre_finite_scores := by
  intro m g m' g' hpre hargs
  refine ⟨fun c => val_main_v36 (F := Ideal) (QA m c) (KA m c) (VA m c) (KMA m c) (VMA m c), ?_, ?_⟩
  · refine (θ_run Cert.KernelIdeal.defs _ _).mono (fun r h c => ?_) (run_main m g)
    exact ⟨((h.1 c).1 5).trans (arr_out m (real_of_pre (hpre c))), kept m h.1 c⟩
  · refine (θ_run Cert.ReferenceIdeal.defs _ _).mono (fun r h c => ?_) (Cert.ReferenceIdeal.Value.run m' g')
    obtain ⟨h0, hrest⟩ := h c
    obtain ⟨a0, a1, a2, a3, a4⟩ := hargs c
    refine ⟨h0.trans ?_, hrest⟩
    rw [val_main_v36_eq, a0, a1, a2, a3, a4]

end Cert.Proof.Attn

end
-- ==== Proof.InProj.Value.lean ====
/-
  The in-projection: what the kernel's five results hold, and that the reference's five results hold the same.

  Both sides are read at one element. The kernel's point `t` normalises rows `512 t … 512 t + 511` of the input and
  multiplies them by column ranges of the weights; the reference normalises all rows and slices one product. Either way the
  element at row `R` is `proj x g w R j`, the product of row `R`, normalised, with column `j` of the weights (times 1/8 for
  the queries).
-/
module

public import proofs.«01_k».proof.Proof.Gen.Kernel2Ideal.Value
public import proofs.«01_k».proof.Proof.Gen.Reference2Ideal.Read
public import Idealize.ShloMosaic.Lib.Pointwise

@[expose] public section

set_option maxRecDepth 16384

noncomputable section

namespace Cert.Proof.InProj

open Cert.Kernel2Ideal Cert.Kernel2Ideal.Gen Idealize.ShloMosaic Idealize.ShloMosaic.TcCoe Idealize.SL.Sem
open Idealize.ShloMosaic.Pipeline (Dat)

/-! ## One element -/

/-- A row normalised by its root mean square and scaled by the gains. -/
def norm (row gain : Fin 1024 → EReal) (k : Fin 1024) : EReal :=
  row k * Ideal.rsqrt (Ideal.div (∑ l, row l * row l) (Ideal.ofBits .f32 0x44800000#32) + Ideal.ofBits .f32 0x358637BD#32) * gain k

/-- Row `R` of the input, the batch and the position flattened. -/
def row (x : Vec Ideal S8x2048x1024 .f32) (R : Fin 16384) (k : Fin 1024) : EReal :=
  x (ix3 ⟨R.val / 2048, by omega⟩ ⟨R.val % 2048, by omega⟩ k)

/-- Element `(R, j)` of the normalised input times the weights. -/
def proj (x : Vec Ideal S8x2048x1024 .f32) (g : Vec Ideal S1024 .f32) (w : Vec Ideal S1024x5120 .f32) (R : Fin 16384) (j : Fin 5120) : EReal :=
  ∑ k, norm (row x R) (fun k => g (ix1 k)) k * w (ix2 k j)

/-! ## The reference -/

section Ref
open Cert.Reference2Ideal.Read

variable (x : Vec Ideal S8x2048x1024 .f32) (g : Vec Ideal S1024 .f32) (w : Vec Ideal S1024x5120 .f32)

/-- The reference's normalised input. -/
theorem ref_norm (a : Fin 8) (b : Fin 2048) (k : Fin 1024) :
    val_main_v12 (F := Ideal) x g (ix3 a b k) = norm (fun k => x (ix3 a b k)) (fun k => g (ix1 k)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, norm]

/-- The reference's whole product. -/
theorem ref_proj (R : Fin 16384) (j : Fin 5120) : val_main_v14 (F := Ideal) x g w (ix2 R j) = proj x g w R j := by
  pointwise [val_main_v14, val_main_v13]
  refine Finset.sum_congr rfl fun k _ => ?_
  rw [ref_norm]; rfl

theorem ref_conv (R : Fin 16384) (k : Fin 1536) :
    val_main_v19 (F := Ideal) x g w (ix2 R k) = proj x g w R ⟨k.val, by omega⟩ := by
  rw [← ref_proj]; pointwise [val_main_v19]

theorem ref_q (R : Fin 16384) (k : Fin 512) :
    val_main_v22 (F := Ideal) x g w (ix2 R k) = proj x g w R ⟨1536 + k.val, by omega⟩ * Ideal.ofBits .f32 0x3E000000#32 := by
  rw [← ref_proj]
  pointwise [val_main_v22, val_main_v21, val_main_v20, val_main_v16, val_main_v15, val_main_cst_2]

theorem ref_k (R : Fin 16384) (k : Fin 512) :
    val_main_v23 (F := Ideal) x g w (ix2 R k) = proj x g w R ⟨2048 + k.val, by omega⟩ := by
  rw [← ref_proj]; pointwise [val_main_v23, val_main_v17, val_main_v15]
  exact congrArg _ (congrArg (ix2 R) (Fin.ext (by show 1536 + (512 + k.val) = 2048 + k.val; omega)))

theorem ref_v (R : Fin 16384) (k : Fin 512) :
    val_main_v24 (F := Ideal) x g w (ix2 R k) = proj x g w R ⟨2560 + k.val, by omega⟩ := by
  rw [← ref_proj]; pointwise [val_main_v24, val_main_v18, val_main_v15]
  exact congrArg _ (congrArg (ix2 R) (Fin.ext (by show 1536 + (1024 + k.val) = 2560 + k.val; omega)))

theorem ref_gates (R : Fin 16384) (k : Fin 2048) :
    val_main_v25 (F := Ideal) x g w (ix2 R k) = proj x g w R ⟨3072 + k.val, by omega⟩ := by
  rw [← ref_proj]; pointwise [val_main_v25]

end Ref

/-! ## The kernel's payloads -/

section Payload

variable (x : Vec Ideal S512x1024 .f32) (g : Vec Ideal S1x1024 .f32) (w : Vec Ideal S1024x5120 .bf16)

theorem zero2 : (![0, 0] : Fin 2 → ℕ) = fun _ => 0 := funext fun a => by fin_cases a <;> rfl

theorem pay_norm (r : Fin 512) (k : Fin 1024) :
    k0_pay3 (F := Ideal) x g (ix2 r k) = norm (fun k => x (ix2 r k)) (fun k => g (ix2 0 k)) k := by
  pointwise [k0_pay3, norm]

/-- Element `(r, j)` of a block's product with the weights. -/
def blockProj (r : Fin 512) (j : Fin 5120) : EReal :=
  ∑ k, norm (fun k => x (ix2 r k)) (fun k => g (ix2 0 k)) k * w (ix2 k j)

theorem out_conv (r : Fin 512) (k : Fin 1536) : out0_3 (F := Ideal) x g w (ix2 r k) = blockProj x g w r ⟨k.val, by omega⟩ := by
  unfold out0_3
  rw [View.canon_unit_zero zero2, View.ld_unit_zero zero2, View.ld_unit_zero zero2]
  pointwise [k0_pay4]
  exact Finset.sum_congr rfl fun k _ => by rw [pay_norm]

theorem out_q (r : Fin 512) (k : Fin 512) :
    out0_4 (F := Ideal) x g w (ix2 r k) = blockProj x g w r ⟨1536 + k.val, by omega⟩ * Ideal.ofBits .f32 0x3E000000#32 := by
  unfold out0_4
  rw [View.canon_unit_zero zero2, View.ld_unit_zero zero2, View.ld_unit_zero zero2]
  pointwise [k0_pay5]
  refine congrArg (· * _) (Finset.sum_congr rfl fun k _ => by rw [pay_norm])

theorem out_k (r : Fin 512) (k : Fin 512) :
    out0_5 (F := Ideal) x g w (ix2 r k) = blockProj x g w r ⟨2048 + k.val, by omega⟩ := by
  unfold out0_5
  rw [View.canon_unit_zero zero2, View.ld_unit_zero zero2, View.ld_unit_zero zero2]
  pointwise [k0_pay6]
  exact Finset.sum_congr rfl fun k _ => by rw [pay_norm]

theorem out_v (r : Fin 512) (k : Fin 512) :
    out0_6 (F := Ideal) x g w (ix2 r k) = blockProj x g w r ⟨2560 + k.val, by omega⟩ := by
  unfold out0_6 k0_pay7
  rw [View.canon_unit_zero zero2, View.ld_unit_zero zero2, View.ld_unit_zero zero2]
  pointwise [k0_pay1]
  exact Finset.sum_congr rfl fun k _ => by rw [pay_norm]

theorem out_gates (r : Fin 512) (k : Fin 2048) :
    out0_7 (F := Ideal) x g w (ix2 r k) = blockProj x g w r ⟨3072 + k.val, by omega⟩ := by
  unfold out0_7 k0_pay7
  rw [View.canon_unit_zero zero2, View.ld_unit_zero zero2, View.ld_unit_zero zero2]
  pointwise [k0_pay2]
  exact Finset.sum_congr rfl fun k _ => by rw [pay_norm]

end Payload

/-! ## The windows -/

variable (m : (ℓ : Loc nD τ sig) → Buf (Elt Ideal) ℓ) (ρ : Dev nD → PrngReg)

/-- Row `r` of point `t`'s block. -/
def at' (t : Fin cfg0.N) (r : Fin 512) : Fin 16384 := ⟨512 * t.val + r.val, by have := t.isLt; have : cfg0.N = 32 := rfl; omega⟩

theorem off0 : ∀ t : Fin grid0.N, win0_0.index t 0 = t.val ∧ win0_0.index t 1 = 0 := by decide +kernel
theorem off1 : ∀ t : Fin grid0.N, win0_1.index t 0 = 0 ∧ win0_1.index t 1 = 0 := by decide +kernel
theorem off2 : ∀ t : Fin grid0.N, win0_2.index t 0 = 0 ∧ win0_2.index t 1 = 0 := by decide +kernel
theorem off3 : ∀ t : Fin grid0.N, win0_3.index t 0 = t.val ∧ win0_3.index t 1 = 0 := by decide +kernel
theorem off4 : ∀ t : Fin grid0.N, win0_4.index t 0 = t.val ∧ win0_4.index t 1 = 0 := by decide +kernel
theorem off5 : ∀ t : Fin grid0.N, win0_5.index t 0 = t.val ∧ win0_5.index t 1 = 0 := by decide +kernel
theorem off6 : ∀ t : Fin grid0.N, win0_6.index t 0 = t.val ∧ win0_6.index t 1 = 0 := by decide +kernel
theorem off7 : ∀ t : Fin grid0.N, win0_7.index t 0 = t.val ∧ win0_7.index t 1 = 0 := by decide +kernel

theorem emb0 (t : Fin cfg0.N) (r : Fin 512) (k : Fin 1024) : (win0_0.rect t).emb (ix2 r k) = ix2 (at' t r) k := by
  funext a; apply Fin.ext
  rw [Pipeline.Window.rect_emb_val_off]
  match a with
  | ⟨0, _⟩ => show win0_0.index t 0 * 512 + r.val = 512 * t.val + r.val; rw [(off0 t).1]; omega
  | ⟨1, _⟩ => show win0_0.index t 1 * 1024 + k.val = k.val; rw [(off0 t).2]; omega

theorem emb1 (t : Fin cfg0.N) (k : Fin 1024) : (win0_1.rect t).emb (ix2 0 k) = ix2 0 k := by
  funext a; apply Fin.ext
  rw [Pipeline.Window.rect_emb_val_off]
  match a with
  | ⟨0, _⟩ => show win0_1.index t 0 * 1 + 0 = 0; rw [(off1 t).1]
  | ⟨1, _⟩ => show win0_1.index t 1 * 1024 + k.val = k.val; rw [(off1 t).2]; omega

theorem emb2 (t : Fin cfg0.N) (k : Fin 1024) (j : Fin 5120) : (win0_2.rect t).emb (ix2 k j) = ix2 k j := by
  funext a; apply Fin.ext
  rw [Pipeline.Window.rect_emb_val_off]
  match a with
  | ⟨0, _⟩ => show win0_2.index t 0 * 1024 + k.val = k.val; rw [(off2 t).1]; omega
  | ⟨1, _⟩ => show win0_2.index t 1 * 5120 + j.val = j.val; rw [(off2 t).2]; omega

theorem emb3 (t : Fin cfg0.N) (r : Fin 512) (k : Fin 1536) : (win0_3.rect t).emb (ix2 r k) = ix2 (at' t r) k := by
  funext a; apply Fin.ext
  rw [Pipeline.Window.rect_emb_val_off]
  match a with
  | ⟨0, _⟩ => show win0_3.index t 0 * 512 + r.val = 512 * t.val + r.val; rw [(off3 t).1]; omega
  | ⟨1, _⟩ => show win0_3.index t 1 * 1536 + k.val = k.val; rw [(off3 t).2]; omega

theorem emb4 (t : Fin cfg0.N) (r : Fin 512) (k : Fin 512) : (win0_4.rect t).emb (ix2 r k) = ix2 (at' t r) k := by
  funext a; apply Fin.ext
  rw [Pipeline.Window.rect_emb_val_off]
  match a with
  | ⟨0, _⟩ => show win0_4.index t 0 * 512 + r.val = 512 * t.val + r.val; rw [(off4 t).1]; omega
  | ⟨1, _⟩ => show win0_4.index t 1 * 512 + k.val = k.val; rw [(off4 t).2]; omega

theorem emb5 (t : Fin cfg0.N) (r : Fin 512) (k : Fin 512) : (win0_5.rect t).emb (ix2 r k) = ix2 (at' t r) k := by
  funext a; apply Fin.ext
  rw [Pipeline.Window.rect_emb_val_off]
  match a with
  | ⟨0, _⟩ => show win0_5.index t 0 * 512 + r.val = 512 * t.val + r.val; rw [(off5 t).1]; omega
  | ⟨1, _⟩ => show win0_5.index t 1 * 512 + k.val = k.val; rw [(off5 t).2]; omega

theorem emb6 (t : Fin cfg0.N) (r : Fin 512) (k : Fin 512) : (win0_6.rect t).emb (ix2 r k) = ix2 (at' t r) k := by
  funext a; apply Fin.ext
  rw [Pipeline.Window.rect_emb_val_off]
  match a with
  | ⟨0, _⟩ => show win0_6.index t 0 * 512 + r.val = 512 * t.val + r.val; rw [(off6 t).1]; omega
  | ⟨1, _⟩ => show win0_6.index t 1 * 512 + k.val = k.val; rw [(off6 t).2]; omega

theorem emb7 (t : Fin cfg0.N) (r : Fin 512) (k : Fin 2048) : (win0_7.rect t).emb (ix2 r k) = ix2 (at' t r) k := by
  funext a; apply Fin.ext
  rw [Pipeline.Window.rect_emb_val_off]
  match a with
  | ⟨0, _⟩ => show win0_7.index t 0 * 512 + r.val = 512 * t.val + r.val; rw [(off7 t).1]; omega
  | ⟨1, _⟩ => show win0_7.index t 1 * 2048 + k.val = k.val; rw [(off7 t).2]; omega

/-- The flattened input's rows. -/
theorem flat_row (x : Vec Ideal S8x2048x1024 .f32) (R : Fin 16384) (k : Fin 1024) :
    shapeCast S16384x1024 x shapeCasts_S8x2048x1024_S16384x1024 (ix2 R k) = row x R k := by
  pointwise [row]

theorem iblk_x (c : Dev nD) (t : Fin cfg0.N) (r : Fin 512) (k : Fin 1024) :
    (iblk m c 0 t : Vec Ideal S512x1024 .f32) (ix2 r k) = row (m ((c : Thread nD τ).loc main_arg0)) (at' t r) k := by
  show (V m c main_v0 : Vec Ideal S16384x1024 .f32) ((win0_0.rect t).emb (ix2 r k)) = _
  rw [emb0]
  show shapeCast S16384x1024 (m ((c : Thread nD τ).loc main_arg0) : Vec Ideal S8x2048x1024 .f32) shapeCasts_S8x2048x1024_S16384x1024 (ix2 (at' t r) k) = _
  exact flat_row _ _ _

theorem iblk_g (c : Dev nD) (t : Fin cfg0.N) (k : Fin 1024) :
    (iblk m c 1 t : Vec Ideal S1x1024 .f32) (ix2 0 k) = (m ((c : Thread nD τ).loc main_arg1) : Vec Ideal S1024 .f32) (ix1 k) := by
  show (V m c main_v1 : Vec Ideal S1x1024 .f32) ((win0_1.rect t).emb (ix2 0 k)) = _
  rw [emb1]
  show shapeCast S1x1024 (m ((c : Thread nD τ).loc main_arg1) : Vec Ideal S1024 .f32) shapeCasts_S1024_S1x1024 (ix2 0 k) = _
  generalize (m ((c : Thread nD τ).loc main_arg1) : Vec Ideal S1024 .f32) = g
  pointwise []

theorem iblk_w (c : Dev nD) (t : Fin cfg0.N) (k : Fin 1024) (j : Fin 5120) :
    (iblk m c 2 t : Vec Ideal S1024x5120 .bf16) (ix2 k j) = (m ((c : Thread nD τ).loc main_arg2) : Vec Ideal S1024x5120 .f32) (ix2 k j) := by
  show (V m c main_v2 : Vec Ideal S1024x5120 .bf16) ((win0_2.rect t).emb (ix2 k j)) = _
  rw [emb2]; rfl

/-- So a block's product is the whole product at the block's rows. -/
theorem block_eq (c : Dev nD) (t : Fin cfg0.N) (r : Fin 512) (j : Fin 5120) :
    blockProj (iblk m c 0 t) (iblk m c 1 t) (iblk m c 2 t) r j
      = proj (m ((c : Thread nD τ).loc main_arg0)) (m ((c : Thread nD τ).loc main_arg1)) (m ((c : Thread nD τ).loc main_arg2)) (at' t r) j := by
  refine Finset.sum_congr rfl fun k _ => ?_
  rw [iblk_w m c t k j, show (fun k => (iblk m c 0 t : Vec Ideal S512x1024 .f32) (ix2 r k)) = row (m ((c : Thread nD τ).loc main_arg0)) (at' t r)
      from funext fun k => iblk_x m c t r k,
    show (fun k => (iblk m c 1 t : Vec Ideal S1x1024 .f32) (ix2 0 k)) = fun k => (m ((c : Thread nD τ).loc main_arg1) : Vec Ideal S1024 .f32) (ix1 k)
      from funext fun k => iblk_g m c t k]

/-- Every row is some point's row. -/
theorem at_row (R : Fin 16384) : ∃ (t : Fin cfg0.N) (r : Fin 512), at' t r = R :=
  ⟨⟨R.val / 512, by show _ < 32; omega⟩, ⟨R.val % 512, by omega⟩, Fin.ext (by show 512 * (R.val / 512) + R.val % 512 = R.val; omega)⟩

/-! ## The five arrays -/

open Cert.Reference2Ideal.Read

/-- The three arguments as the reference reads them. -/
abbrev X (c : Dev nD) : Vec Ideal S8x2048x1024 .f32 := m ((c : Thread nD τ).loc main_arg0)
abbrev G (c : Dev nD) : Vec Ideal S1024 .f32 := m ((c : Thread nD τ).loc main_arg1)
abbrev W (c : Dev nD) : Vec Ideal S1024x5120 .f32 := m ((c : Thread nD τ).loc main_arg2)

theorem arr_conv (c : Dev nD) : (dats m 0 c).arrAt 3 cfg0.N = val_main_v19 (F := Ideal) (X m c) (G m c) (W m c) := by
  refine (dats m 0 c).arrAt_eq_of_cover 3 _ (fun t _ => ?_) (fun i => ?_)
  · rw [Value.flushed3]
    funext y
    obtain ⟨r, k, rfl⟩ : ∃ (r : Fin 512) (k : Fin 1536), y = ix2 r k := ⟨y 0, y 1, eq_ix2 y⟩
    show out0_3 (F := Ideal) (iblk m c 0 t) (iblk m c 1 t) (iblk m c 2 t) (ix2 r k) = val_main_v19 (F := Ideal) _ _ _ ((win0_3.rect t).emb (ix2 r k))
    rw [emb3, ref_conv, out_conv, block_eq]
  · obtain ⟨R, k, rfl⟩ : ∃ (R : Fin 16384) (k : Fin 1536), i = ix2 R k := ⟨i 0, i 1, eq_ix2 i⟩
    obtain ⟨t, r, rfl⟩ := at_row R
    refine ⟨t, flush0_3 t, ?_⟩
    rw [← emb3]
    exact View.emb_mem_set ((cfg0.win 3).blk t).view (ix2 r k)

theorem arr_q (c : Dev nD) : (dats m 0 c).arrAt 4 cfg0.N = val_main_v22 (F := Ideal) (X m c) (G m c) (W m c) := by
  refine (dats m 0 c).arrAt_eq_of_cover 4 _ (fun t _ => ?_) (fun i => ?_)
  · rw [Value.flushed4]
    funext y
    obtain ⟨r, k, rfl⟩ : ∃ (r : Fin 512) (k : Fin 512), y = ix2 r k := ⟨y 0, y 1, eq_ix2 y⟩
    show out0_4 (F := Ideal) (iblk m c 0 t) (iblk m c 1 t) (iblk m c 2 t) (ix2 r k) = val_main_v22 (F := Ideal) _ _ _ ((win0_4.rect t).emb (ix2 r k))
    rw [emb4, ref_q, out_q, block_eq]
  · obtain ⟨R, k, rfl⟩ : ∃ (R : Fin 16384) (k : Fin 512), i = ix2 R k := ⟨i 0, i 1, eq_ix2 i⟩
    obtain ⟨t, r, rfl⟩ := at_row R
    refine ⟨t, flush0_4 t, ?_⟩
    rw [← emb4]
    exact View.emb_mem_set ((cfg0.win 4).blk t).view (ix2 r k)

theorem arr_k (c : Dev nD) : (dats m 0 c).arrAt 5 cfg0.N = val_main_v23 (F := Ideal) (X m c) (G m c) (W m c) := by
  refine (dats m 0 c).arrAt_eq_of_cover 5 _ (fun t _ => ?_) (fun i => ?_)
  · rw [Value.flushed5]
    funext y
    obtain ⟨r, k, rfl⟩ : ∃ (r : Fin 512) (k : Fin 512), y = ix2 r k := ⟨y 0, y 1, eq_ix2 y⟩
    show out0_5 (F := Ideal) (iblk m c 0 t) (iblk m c 1 t) (iblk m c 2 t) (ix2 r k) = val_main_v23 (F := Ideal) _ _ _ ((win0_5.rect t).emb (ix2 r k))
    rw [emb5, ref_k, out_k, block_eq]
  · obtain ⟨R, k, rfl⟩ : ∃ (R : Fin 16384) (k : Fin 512), i = ix2 R k := ⟨i 0, i 1, eq_ix2 i⟩
    obtain ⟨t, r, rfl⟩ := at_row R
    refine ⟨t, flush0_5 t, ?_⟩
    rw [← emb5]
    exact View.emb_mem_set ((cfg0.win 5).blk t).view (ix2 r k)

theorem arr_v (c : Dev nD) : (dats m 0 c).arrAt 6 cfg0.N = val_main_v24 (F := Ideal) (X m c) (G m c) (W m c) := by
  refine (dats m 0 c).arrAt_eq_of_cover 6 _ (fun t _ => ?_) (fun i => ?_)
  · rw [Value.flushed6]
    funext y
    obtain ⟨r, k, rfl⟩ : ∃ (r : Fin 512) (k : Fin 512), y = ix2 r k := ⟨y 0, y 1, eq_ix2 y⟩
    show out0_6 (F := Ideal) (iblk m c 0 t) (iblk m c 1 t) (iblk m c 2 t) (ix2 r k) = val_main_v24 (F := Ideal) _ _ _ ((win0_6.rect t).emb (ix2 r k))
    rw [emb6, ref_v, out_v, block_eq]
  · obtain ⟨R, k, rfl⟩ : ∃ (R : Fin 16384) (k : Fin 512), i = ix2 R k := ⟨i 0, i 1, eq_ix2 i⟩
    obtain ⟨t, r, rfl⟩ := at_row R
    refine ⟨t, flush0_6 t, ?_⟩
    rw [← emb6]
    exact View.emb_mem_set ((cfg0.win 6).blk t).view (ix2 r k)

theorem arr_gates (c : Dev nD) : (dats m 0 c).arrAt 7 cfg0.N = val_main_v25 (F := Ideal) (X m c) (G m c) (W m c) := by
  refine (dats m 0 c).arrAt_eq_of_cover 7 _ (fun t _ => ?_) (fun i => ?_)
  · rw [Value.flushed7]
    funext y
    obtain ⟨r, k, rfl⟩ : ∃ (r : Fin 512) (k : Fin 2048), y = ix2 r k := ⟨y 0, y 1, eq_ix2 y⟩
    show out0_7 (F := Ideal) (iblk m c 0 t) (iblk m c 1 t) (iblk m c 2 t) (ix2 r k) = val_main_v25 (F := Ideal) _ _ _ ((win0_7.rect t).emb (ix2 r k))
    rw [emb7, ref_gates, out_gates, block_eq]
  · obtain ⟨R, k, rfl⟩ : ∃ (R : Fin 16384) (k : Fin 2048), i = ix2 R k := ⟨i 0, i 1, eq_ix2 i⟩
    obtain ⟨t, r, rfl⟩ := at_row R
    refine ⟨t, flush0_7 t, ?_⟩
    rw [← emb7]
    exact View.emb_mem_set ((cfg0.win 7).blk t).view (ix2 r k)

end Cert.Proof.InProj

end
-- ==== Proof.InProj.Claim.lean ====
/-
  The in-projection's value claim: over the reals extended by ±∞ the kernel and the reference end with the same five
  results, and the reference leaves its arguments as they were.
-/
module

public import proofs.«01_k».proof.Defs
public import proofs.«01_k».proof.Proof.InProj.Value
public import proofs.«01_k».proof.Proof.Gen.Reference2Ideal.Run

@[expose] public section

noncomputable section

namespace Cert.Proof.InProj

open Idealize.ShloMosaic Idealize.ShloMosaic.TcCoe Idealize.SL.Sem
open Cert.Reference2Ideal.Read

/-- The five results are `proj` at the reference's columns, in both programs. -/
theorem algebraic : Cert.algebraic_Kernel2Ideal_Reference2Ideal := by
  intro m g m' g' _ hargs
  refine ⟨fun c => val_main_v19 (F := Ideal) (X m c) (G m c) (W m c), fun c => val_main_v22 (F := Ideal) (X m c) (G m c) (W m c),
    fun c => val_main_v23 (F := Ideal) (X m c) (G m c) (W m c), fun c => val_main_v24 (F := Ideal) (X m c) (G m c) (W m c),
    fun c => val_main_v25 (F := Ideal) (X m c) (G m c) (W m c), ?_, ?_⟩
  · refine (θ_run Cert.Kernel2Ideal.defs _ _).mono (fun r h c => ?_) (Cert.Kernel2Ideal.Value.run_blocks m g)
    obtain ⟨h0, h1, h2, h3, h4, hrest⟩ := h c
    exact ⟨h0.trans (arr_conv m c), h1.trans (arr_q m c), h2.trans (arr_k m c), h3.trans (arr_v m c), h4.trans (arr_gates m c), hrest⟩
  · refine (θ_run Cert.Reference2Ideal.defs _ _).mono (fun r h c => ?_) (Cert.Reference2Ideal.Value.run m' g')
    obtain ⟨h0, h1, h2, h3, h4, hrest⟩ := h c
    obtain ⟨a0, a1, a2⟩ := hargs c
    refine ⟨h0.trans ?_, h1.trans ?_, h2.trans ?_, h3.trans ?_, h4.trans ?_, hrest⟩
    · rw [val_main_v19_eq, a0, a1, a2]
    · rw [val_main_v22_eq, a0, a1, a2]
    · rw [val_main_v23_eq, a0, a1, a2]
    · rw [val_main_v24_eq, a0, a1, a2]
    · rw [val_main_v25_eq, a0, a1, a2]

end Cert.Proof.InProj

end
-- ==== Proof.Mixer.Outs.lean ====
/-
  The mixer's program, one grid point: what its three results and the scratch hold, written as payloads of the point's
  input blocks.

  The scratch holds the gated products of the last eight rows before the block (from the meta tokens at the first point of a
  batch, from the point before elsewhere), then those of the block's own 512 rows. The convolution reads it at three row
  offsets.
-/
module

public import proofs.«01_k».proof.Proof.Gen.Kernel3Ideal.Value

@[expose] public section

set_option maxRecDepth 16384

noncomputable section

namespace Cert.Proof.Mixer

open Cert.Kernel3Ideal Cert.Kernel3Ideal.Gen Idealize.ShloMosaic Idealize.ShloMosaic.TcCoe Idealize.SL.Sem

variable {F : FTy → Type} [FloatOps F]

/-! ## The loads -/

/-- Two column ranges of the block of the convolution's input, and of its meta rows. -/
abbrev colB : Rect S512x1536 := Rect.unit ![0, 0] S512x512.size (by decide)
abbrev colC : Rect S512x1536 := Rect.unit ![0, 512] S512x512.size (by decide)
abbrev colU : Rect S512x1536 := Rect.unit ![0, 1024] S512x512.size (by decide)
abbrev metaC : Rect S16x1536 := Rect.unit ![8, 512] S8x512.size (by decide)
abbrev metaU : Rect S16x1536 := Rect.unit ![8, 1024] S8x512.size (by decide)

/-- Row ranges of the scratch: the history, the block, the last eight rows, and the three offsets the taps read. -/
abbrev hist : Rect S520x512 := Rect.unit ![0, 0] S8x512.size (by decide)
abbrev own : Rect S520x512 := Rect.unit ![8, 0] S512x512.size (by decide)
abbrev last : Rect S520x512 := Rect.unit ![512, 0] S8x512.size (by decide)
abbrev tapA : Rect S520x512 := Rect.unit ![6, 0] S512x512.size (by decide)
abbrev tapB : Rect S520x512 := Rect.unit ![7, 0] S512x512.size (by decide)
abbrev tapC : Rect S520x512 := Rect.unit ![8, 0] S512x512.size (by decide)

/-- The three rows of the convolution's weights, and the two halves of the gates. -/
abbrev wrow0 : Rect S3x512 := Rect.unit ![0, 0] S1x512.size (by decide)
abbrev wrow1 : Rect S3x512 := Rect.unit ![1, 0] S1x512.size (by decide)
abbrev wrow2 : Rect S3x512 := Rect.unit ![2, 0] S1x512.size (by decide)
abbrev gateA : Rect S512x2048 := Rect.unit ![0, 0] S512x1024.size (by decide)
abbrev gateB : Rect S512x2048 := Rect.unit ![0, 1024] S512x1024.size (by decide)

/-- The scratch after the first point of a batch. -/
def carryA (x0 : Vec F S512x1536 .f32) (x4 : Vec F S16x1536 .f32) : Vec F S520x512 .f32 :=
  View.canon [⟨own, k0_pay4 (View.ld x0 colC) (View.ld x0 colU)⟩, ⟨hist, k0_pay2 (View.ld x4 metaC) (View.ld x4 metaU)⟩]

/-- The scratch after another point, over what the point before left in it. -/
def carryB (x0 : Vec F S512x1536 .f32) (xs : Vec F S520x512 .f32) : Vec F S520x512 .f32 :=
  View.canon [⟨own, k0_pay4 (View.ld x0 colC) (View.ld x0 colU)⟩, ⟨hist, k0_pay3 (View.ld xs last)⟩]

/-- The convolution's branch, from the scratch and the block. -/
def branch (sc : Vec F S520x512 .f32) (x0 : Vec F S512x1536 .f32) (x5 : Vec F S3x512 .f32) : FVec F S512x512 .bf16 :=
  k0_pay5 (View.ld sc tapA) (View.ld x5 wrow0) (View.ld sc tapB) (View.ld x5 wrow1) (View.ld sc tapC) (View.ld x5 wrow2) (View.ld x0 colB)

section
variable (sc : Vec F S520x512 .f32) (x0 : Vec F S512x1536 .f32) (x1 : Vec F S512x512 .bf16) (x2 : Vec F S512x2048 .f32)
  (x3 : Vec F S512x1024 .f32) (x5 : Vec F S3x512 .f32) (x6 x7 : Vec F S512x1024 .bf16) (x8 : Vec F S1024x1024 .bf16)
  (x9 : Vec F S1x1024 .f32) (x10 : Vec F S1024x2048 .bf16)

/-- The residual stream, its normalised form and the routing queries. -/
def stream : FVec F S512x1024 .f32 := k0_pay6 (branch sc x0 x5) x6 x1 x7 (View.ld x2 gateA) (View.ld x2 gateB) x3 x8
def normed : FVec F S512x1024 .bf16 := k0_pay7 (branch sc x0 x5) x6 x1 x7 (View.ld x2 gateA) (View.ld x2 gateB) x3 x8 x9
def queries : FVec F S512x2048 .bf16 := k0_pay1 (normed sc x0 x1 x2 x3 x5 x6 x7 x8 x9) x10

end

theorem zero2 : (![0, 0] : Fin 2 → ℕ) = fun _ => 0 := funext fun a => by fin_cases a <;> rfl

/-! The loads and the stores of whole blocks. -/

theorem ld_x {e : EltTy} (X : Vec F S512x1024 e) (h) : View.ld X (Rect.unit (s := S512x1024) ![0, 0] ![512, 1024] h) = X := View.ld_unit_zero zero2 h X
theorem ld_o {e : EltTy} (X : Vec F S512x512 e) (h) : View.ld X (Rect.unit (s := S512x512) ![0, 0] ![512, 512] h) = X := View.ld_unit_zero zero2 h X
theorem ld_wo {e : EltTy} (X : Vec F S1024x1024 e) (h) : View.ld X (Rect.unit (s := S1024x1024) ![0, 0] ![1024, 1024] h) = X := View.ld_unit_zero zero2 h X
theorem ld_gain {e : EltTy} (X : Vec F S1x1024 e) (h) : View.ld X (Rect.unit (s := S1x1024) ![0, 0] ![1, 1024] h) = X := View.ld_unit_zero zero2 h X
theorem ld_wq {e : EltTy} (X : Vec F S1024x2048 e) (h) : View.ld X (Rect.unit (s := S1024x2048) ![0, 0] ![1024, 2048] h) = X := View.ld_unit_zero zero2 h X
theorem put_x {e : EltTy} (X : Vec F S512x1024 e) (h) :
    View.canon [(⟨Rect.unit (s := S512x1024) ![0, 0] ![512, 1024] h, X⟩ : View.Piece (Elt F) S512x1024 e)] = X := View.canon_unit_zero zero2 h X
theorem put_q {e : EltTy} (X : Vec F S512x2048 e) (h) :
    View.canon [(⟨Rect.unit (s := S512x2048) ![0, 0] ![512, 2048] h, X⟩ : View.Piece (Elt F) S512x2048 e)] = X := View.canon_unit_zero zero2 h X

/-- The scratch read back. -/
theorem read_scratch (h : (Memref.whole cc0_scratch0 : Memref sig .tc .vmem S520x512 .f32).IsWhole) (X : Vec F S520x512 .f32) :
    View.read (Elt F) (View.whole cc0_scratch0) (h.unread X) = X := h.read_unread X

variable (m : (ℓ : Loc nD τ sig) → Buf (Elt F) ℓ)

/-- The four contents at point `t` over a scratch. -/
def contents (c : Dev nD) (t : Fin cfg0.N) (sc : Vec F S520x512 .f32) :
    Vec F S512x1024 .f32 × Vec F S512x1024 .bf16 × Vec F S512x2048 .bf16 × Vec F S520x512 .f32 :=
  (stream sc (iblk m c 0 t) (iblk m c 1 t) (iblk m c 2 t) (iblk m c 3 t) (iblk m c 5 t) (iblk m c 6 t) (iblk m c 7 t) (iblk m c 8 t),
   normed sc (iblk m c 0 t) (iblk m c 1 t) (iblk m c 2 t) (iblk m c 3 t) (iblk m c 5 t) (iblk m c 6 t) (iblk m c 7 t) (iblk m c 8 t) (iblk m c 9 t),
   queries sc (iblk m c 0 t) (iblk m c 1 t) (iblk m c 2 t) (iblk m c 3 t) (iblk m c 5 t) (iblk m c 6 t) (iblk m c 7 t) (iblk m c 8 t) (iblk m c 9 t) (iblk m c 10 t),
   sc)

theorem outs_first (c : Dev nD) (t : Fin cfg0.N) (h0 : t.val % 4 = 0) :
    outsAt0 m c t.val t.isLt = contents m c t (carryA (iblk m c 0 t) (iblk m c 4 t)) := by
  rw [outsAt0_A m c t h0 (by omega)]
  unfold out0_A_11 out0_A_12 out0_A_13 sout0_A_0 kernelRun0_A
  dsimp only
  unfold kernelRun0_A.sl.r_1 kernelRun0_A.sl.r kernelRun0_A.sl.v12 kernelRun0_A.sl.v16 kernelRun0_A.sl.v21 kernelRun0_A.sl.HS0_2
  simp only [View.read_writes_junk_eq_canon, View.readCov_eq_canon', View.readAt_writes_junk_eq_canon, View.readAt_eq_ld, Memref.IsWhole.read_unread,
    read_scratch, ld_x, ld_o, ld_wo, ld_gain, ld_wq, put_x, put_q]
  rfl

theorem outs_next (c : Dev nD) (t : Fin cfg0.N) (h0 : ¬t.val % 4 = 0) :
    outsAt0 m c t.val t.isLt = contents m c t (carryB (iblk m c 0 t) (outsAt0 m c (t.val - 1) (Nat.lt_of_le_of_lt (Nat.sub_le _ _) t.isLt)).2.2.2) := by
  rw [outsAt0_B m c t h0 (by omega)]
  unfold out0_B_11 out0_B_12 out0_B_13 sout0_B_0 kernelRun0_B
  dsimp only
  unfold kernelRun0_B.sl.r_1 kernelRun0_B.sl.r kernelRun0_B.sl.v12 kernelRun0_B.sl.v16 kernelRun0_B.sl.v21 kernelRun0_B.sl.HS0_2
  simp only [View.read_writes_junk_eq_canon, View.readCov_eq_canon', View.readAt_writes_junk_eq_canon, View.readAt_eq_ld, Memref.IsWhole.read_unread,
    read_scratch, ld_x, ld_o, ld_wo, ld_gain, ld_wq, put_x, put_q]
  rfl

/-- The scratch a point leaves, -/
theorem left_first (c : Dev nD) (t : Fin cfg0.N) (h0 : t.val % 4 = 0) :
    (outsAt0 m c t.val t.isLt).2.2.2 = carryA (iblk m c 0 t) (iblk m c 4 t) := by
  rw [outs_first m c t h0, contents]

theorem left_next (c : Dev nD) (t : Fin cfg0.N) (h0 : ¬t.val % 4 = 0) :
    (outsAt0 m c t.val t.isLt).2.2.2
      = carryB (iblk m c 0 t) (outsAt0 m c (t.val - 1) (Nat.lt_of_le_of_lt (Nat.sub_le _ _) t.isLt)).2.2.2 := by
  rw [outs_next m c t h0, contents]

/-- and the point's results as those of that scratch. -/
theorem outs_eq (c : Dev nD) (t : Fin cfg0.N) : outsAt0 m c t.val t.isLt = contents m c t (outsAt0 m c t.val t.isLt).2.2.2 := by
  by_cases h0 : t.val % 4 = 0
  · rw [left_first m c t h0]; exact outs_first m c t h0
  · rw [left_next m c t h0]; exact outs_next m c t h0

section
variable (c : Dev nD) (t : Fin cfg0.N)

/-- The scratch a point leaves. -/
abbrev sc : Vec F S520x512 .f32 := (outsAt0 m c t.val t.isLt).2.2.2

theorem outs_stream : (outsAt0 m c t.val t.isLt).1
    = stream (sc m c t) (iblk m c 0 t) (iblk m c 1 t) (iblk m c 2 t) (iblk m c 3 t) (iblk m c 5 t) (iblk m c 6 t) (iblk m c 7 t) (iblk m c 8 t) :=
  congrArg (fun o => o.1) (outs_eq m c t)

theorem outs_normed : (outsAt0 m c t.val t.isLt).2.1
    = normed (sc m c t) (iblk m c 0 t) (iblk m c 1 t) (iblk m c 2 t) (iblk m c 3 t) (iblk m c 5 t) (iblk m c 6 t) (iblk m c 7 t) (iblk m c 8 t)
      (iblk m c 9 t) :=
  congrArg (fun o => o.2.1) (outs_eq m c t)

theorem outs_queries : (outsAt0 m c t.val t.isLt).2.2.1
    = queries (sc m c t) (iblk m c 0 t) (iblk m c 1 t) (iblk m c 2 t) (iblk m c 3 t) (iblk m c 5 t) (iblk m c 6 t) (iblk m c 7 t) (iblk m c 8 t)
      (iblk m c 9 t) (iblk m c 10 t) :=
  congrArg (fun o => o.2.2.1) (outs_eq m c t)

end

end Cert.Proof.Mixer

end
-- ==== Proof.Mixer.Blocks.lean ====
/-
  The mixer's blocks: where each window's block lies in its array, and what the input blocks hold of the arguments.
-/
module

public import proofs.«01_k».proof.Proof.Mixer.Outs
public import proofs.«01_k».proof.Proof.InProj.Value

@[expose] public section

set_option maxRecDepth 16384

noncomputable section

namespace Cert.Proof.Mixer

open Cert.Kernel3Ideal Cert.Kernel3Ideal.Gen Idealize.ShloMosaic Idealize.ShloMosaic.TcCoe Idealize.SL.Sem
open Cert.Proof.InProj (row flat_row)

/-- Row `r` of point `t`'s block. -/
def at' (t : Fin cfg0.N) (r : Fin 512) : Fin 16384 := ⟨t.val * 512 + r.val, by have := t.isLt; have : cfg0.N = 32 := rfl; omega⟩

/-- Every row is some point's row. -/
theorem at_row (R : Fin 16384) : ∃ (t : Fin cfg0.N) (r : Fin 512), at' t r = R :=
  ⟨⟨R.val / 512, by show _ < 32; omega⟩, ⟨R.val % 512, by omega⟩, Fin.ext (by show R.val / 512 * 512 + R.val % 512 = R.val; omega)⟩

/-- A two-axis index from its coordinates. -/
theorem eq_row {A B : ℕ} {R : Fin A} {k : Fin B} {y : (⟨2, ![A, B]⟩ : Shape).Idx} (h0 : (y 0).val = R.val) (h1 : (y 1).val = k.val) :
    y = ix2 R k := (eq_ix2 y).trans (congrArg₂ ix2 (Fin.ext h0) (Fin.ext h1))

theorem off0 : ∀ t : Fin grid0.N, win0_0.index t 0 = t.val ∧ win0_0.index t 1 = 0 := by decide +kernel
theorem off1 : ∀ t : Fin grid0.N, win0_1.index t 0 = t.val ∧ win0_1.index t 1 = 0 := by decide +kernel
theorem off2 : ∀ t : Fin grid0.N, win0_2.index t 0 = t.val ∧ win0_2.index t 1 = 0 := by decide +kernel
theorem off3 : ∀ t : Fin grid0.N, win0_3.index t 0 = t.val ∧ win0_3.index t 1 = 0 := by decide +kernel
theorem off4 : ∀ t : Fin grid0.N, win0_4.index t 0 = 0 ∧ win0_4.index t 1 = 0 := by decide +kernel
theorem off5 : ∀ t : Fin grid0.N, win0_5.index t 0 = 0 ∧ win0_5.index t 1 = 0 := by decide +kernel
theorem off6 : ∀ t : Fin grid0.N, win0_6.index t 0 = 0 ∧ win0_6.index t 1 = 0 := by decide +kernel
theorem off7 : ∀ t : Fin grid0.N, win0_7.index t 0 = 0 ∧ win0_7.index t 1 = 0 := by decide +kernel
theorem off8 : ∀ t : Fin grid0.N, win0_8.index t 0 = 0 ∧ win0_8.index t 1 = 0 := by decide +kernel
theorem off9 : ∀ t : Fin grid0.N, win0_9.index t 0 = 0 ∧ win0_9.index t 1 = 0 := by decide +kernel
theorem off10 : ∀ t : Fin grid0.N, win0_10.index t 0 = 0 ∧ win0_10.index t 1 = 0 := by decide +kernel
theorem off11 : ∀ t : Fin grid0.N, win0_11.index t 0 = t.val ∧ win0_11.index t 1 = 0 := by decide +kernel
theorem off12 : ∀ t : Fin grid0.N, win0_12.index t 0 = t.val ∧ win0_12.index t 1 = 0 := by decide +kernel
theorem off13 : ∀ t : Fin grid0.N, win0_13.index t 0 = t.val ∧ win0_13.index t 1 = 0 := by decide +kernel

theorem emb0 (t : Fin cfg0.N) (r : Fin 512) (k : Fin 1536) : (win0_0.rect t).emb (ix2 r k) = ix2 (at' t r) k :=
  eq_row (by rw [Pipeline.Window.rect_emb_val_off]; show win0_0.index t 0 * 512 + r.val = t.val * 512 + r.val; rw [(off0 t).1])
    (by rw [Pipeline.Window.rect_emb_val_off]; show win0_0.index t 1 * 1536 + k.val = _; rw [(off0 t).2]; omega)

theorem emb1 (t : Fin cfg0.N) (r : Fin 512) (k : Fin 512) : (win0_1.rect t).emb (ix2 r k) = ix2 (at' t r) k :=
  eq_row (by rw [Pipeline.Window.rect_emb_val_off]; show win0_1.index t 0 * 512 + r.val = t.val * 512 + r.val; rw [(off1 t).1])
    (by rw [Pipeline.Window.rect_emb_val_off]; show win0_1.index t 1 * 512 + k.val = _; rw [(off1 t).2]; omega)

theorem emb2 (t : Fin cfg0.N) (r : Fin 512) (k : Fin 2048) : (win0_2.rect t).emb (ix2 r k) = ix2 (at' t r) k :=
  eq_row (by rw [Pipeline.Window.rect_emb_val_off]; show win0_2.index t 0 * 512 + r.val = t.val * 512 + r.val; rw [(off2 t).1])
    (by rw [Pipeline.Window.rect_emb_val_off]; show win0_2.index t 1 * 2048 + k.val = _; rw [(off2 t).2]; omega)

theorem emb3 (t : Fin cfg0.N) (r : Fin 512) (k : Fin 1024) : (win0_3.rect t).emb (ix2 r k) = ix2 (at' t r) k :=
  eq_row (by rw [Pipeline.Window.rect_emb_val_off]; show win0_3.index t 0 * 512 + r.val = t.val * 512 + r.val; rw [(off3 t).1])
    (by rw [Pipeline.Window.rect_emb_val_off]; show win0_3.index t 1 * 1024 + k.val = _; rw [(off3 t).2]; omega)

theorem emb4 (t : Fin cfg0.N) (r : Fin 16) (k : Fin 1536) : (win0_4.rect t).emb (ix2 r k) = ix2 r k :=
  eq_row (by rw [Pipeline.Window.rect_emb_val_off]; show win0_4.index t 0 * 16 + r.val = _; rw [(off4 t).1]; omega)
    (by rw [Pipeline.Window.rect_emb_val_off]; show win0_4.index t 1 * 1536 + k.val = _; rw [(off4 t).2]; omega)

theorem emb5 (t : Fin cfg0.N) (r : Fin 3) (k : Fin 512) : (win0_5.rect t).emb (ix2 r k) = ix2 r k :=
  eq_row (by rw [Pipeline.Window.rect_emb_val_off]; show win0_5.index t 0 * 3 + r.val = _; rw [(off5 t).1]; omega)
    (by rw [Pipeline.Window.rect_emb_val_off]; show win0_5.index t 1 * 512 + k.val = _; rw [(off5 t).2]; omega)

theorem emb6 (t : Fin cfg0.N) (r : Fin 512) (k : Fin 1024) : (win0_6.rect t).emb (ix2 r k) = ix2 r k :=
  eq_row (by rw [Pipeline.Window.rect_emb_val_off]; show win0_6.index t 0 * 512 + r.val = _; rw [(off6 t).1]; omega)
    (by rw [Pipeline.Window.rect_emb_val_off]; show win0_6.index t 1 * 1024 + k.val = _; rw [(off6 t).2]; omega)

theorem emb7 (t : Fin cfg0.N) (r : Fin 512) (k : Fin 1024) : (win0_7.rect t).emb (ix2 r k) = ix2 r k :=
  eq_row (by rw [Pipeline.Window.rect_emb_val_off]; show win0_7.index t 0 * 512 + r.val = _; rw [(off7 t).1]; omega)
    (by rw [Pipeline.Window.rect_emb_val_off]; show win0_7.index t 1 * 1024 + k.val = _; rw [(off7 t).2]; omega)

theorem emb8 (t : Fin cfg0.N) (r : Fin 1024) (k : Fin 1024) : (win0_8.rect t).emb (ix2 r k) = ix2 r k :=
  eq_row (by rw [Pipeline.Window.rect_emb_val_off]; show win0_8.index t 0 * 1024 + r.val = _; rw [(off8 t).1]; omega)
    (by rw [Pipeline.Window.rect_emb_val_off]; show win0_8.index t 1 * 1024 + k.val = _; rw [(off8 t).2]; omega)

theorem emb9 (t : Fin cfg0.N) (k : Fin 1024) : (win0_9.rect t).emb (ix2 0 k) = ix2 0 k :=
  eq_row (by rw [Pipeline.Window.rect_emb_val_off]; show win0_9.index t 0 * 1 + 0 = _; rw [(off9 t).1]; rfl)
    (by rw [Pipeline.Window.rect_emb_val_off]; show win0_9.index t 1 * 1024 + k.val = _; rw [(off9 t).2]; omega)

theorem emb10 (t : Fin cfg0.N) (r : Fin 1024) (k : Fin 2048) : (win0_10.rect t).emb (ix2 r k) = ix2 r k :=
  eq_row (by rw [Pipeline.Window.rect_emb_val_off]; show win0_10.index t 0 * 1024 + r.val = _; rw [(off10 t).1]; omega)
    (by rw [Pipeline.Window.rect_emb_val_off]; show win0_10.index t 1 * 2048 + k.val = _; rw [(off10 t).2]; omega)

theorem emb11 (t : Fin cfg0.N) (r : Fin 512) (k : Fin 1024) : (win0_11.rect t).emb (ix2 r k) = ix2 (at' t r) k :=
  eq_row (by rw [Pipeline.Window.rect_emb_val_off]; show win0_11.index t 0 * 512 + r.val = t.val * 512 + r.val; rw [(off11 t).1])
    (by rw [Pipeline.Window.rect_emb_val_off]; show win0_11.index t 1 * 1024 + k.val = _; rw [(off11 t).2]; omega)

theorem emb12 (t : Fin cfg0.N) (r : Fin 512) (k : Fin 1024) : (win0_12.rect t).emb (ix2 r k) = ix2 (at' t r) k :=
  eq_row (by rw [Pipeline.Window.rect_emb_val_off]; show win0_12.index t 0 * 512 + r.val = t.val * 512 + r.val; rw [(off12 t).1])
    (by rw [Pipeline.Window.rect_emb_val_off]; show win0_12.index t 1 * 1024 + k.val = _; rw [(off12 t).2]; omega)

theorem emb13 (t : Fin cfg0.N) (r : Fin 512) (k : Fin 2048) : (win0_13.rect t).emb (ix2 r k) = ix2 (at' t r) k :=
  eq_row (by rw [Pipeline.Window.rect_emb_val_off]; show win0_13.index t 0 * 512 + r.val = t.val * 512 + r.val; rw [(off13 t).1])
    (by rw [Pipeline.Window.rect_emb_val_off]; show win0_13.index t 1 * 2048 + k.val = _; rw [(off13 t).2]; omega)

variable (m : (ℓ : Loc nD τ sig) → Buf (Elt Ideal) ℓ)

/-! The arguments, as the reference reads them. -/

abbrev CV (c : Dev nD) : Vec Ideal S16384x1536 .f32 := m ((c : Thread nD τ).loc main_arg0)
abbrev O (c : Dev nD) : Vec Ideal S16384x512 .bf16 := m ((c : Thread nD τ).loc main_arg1)
abbrev GT (c : Dev nD) : Vec Ideal S16384x2048 .f32 := m ((c : Thread nD τ).loc main_arg2)
abbrev X (c : Dev nD) : Vec Ideal S8x2048x1024 .f32 := m ((c : Thread nD τ).loc main_arg3)
abbrev CM (c : Dev nD) : Vec Ideal S16x1536 .f32 := m ((c : Thread nD τ).loc main_arg4)
abbrev CW (c : Dev nD) : Vec Ideal S3x512 .f32 := m ((c : Thread nD τ).loc main_arg5)
abbrev WA (c : Dev nD) : Vec Ideal S512x1024 .f32 := m ((c : Thread nD τ).loc main_arg6)
abbrev WB (c : Dev nD) : Vec Ideal S512x1024 .f32 := m ((c : Thread nD τ).loc main_arg7)
abbrev WO (c : Dev nD) : Vec Ideal S1024x1024 .f32 := m ((c : Thread nD τ).loc main_arg8)
abbrev GN (c : Dev nD) : Vec Ideal S1024 .f32 := m ((c : Thread nD τ).loc main_arg9)
abbrev WQ (c : Dev nD) : Vec Ideal S1024x2048 .f32 := m ((c : Thread nD τ).loc main_arg10)

theorem iblk_cv (c : Dev nD) (t : Fin cfg0.N) (r : Fin 512) (k : Fin 1536) :
    (iblk m c 0 t : Vec Ideal S512x1536 .f32) (ix2 r k) = CV m c (ix2 (at' t r) k) := by
  show (V m c main_arg0 : Vec Ideal S16384x1536 .f32) ((win0_0.rect t).emb (ix2 r k)) = _
  rw [emb0]; rfl

theorem iblk_o (c : Dev nD) (t : Fin cfg0.N) (r : Fin 512) (k : Fin 512) :
    (iblk m c 1 t : Vec Ideal S512x512 .bf16) (ix2 r k) = O m c (ix2 (at' t r) k) := by
  show (V m c main_arg1 : Vec Ideal S16384x512 .bf16) ((win0_1.rect t).emb (ix2 r k)) = _
  rw [emb1]; rfl

theorem iblk_gt (c : Dev nD) (t : Fin cfg0.N) (r : Fin 512) (k : Fin 2048) :
    (iblk m c 2 t : Vec Ideal S512x2048 .f32) (ix2 r k) = GT m c (ix2 (at' t r) k) := by
  show (V m c main_arg2 : Vec Ideal S16384x2048 .f32) ((win0_2.rect t).emb (ix2 r k)) = _
  rw [emb2]; rfl

theorem iblk_x (c : Dev nD) (t : Fin cfg0.N) (r : Fin 512) (k : Fin 1024) :
    (iblk m c 3 t : Vec Ideal S512x1024 .f32) (ix2 r k) = row (X m c) (at' t r) k := by
  show (V m c main_v0 : Vec Ideal S16384x1024 .f32) ((win0_3.rect t).emb (ix2 r k)) = _
  rw [emb3]
  show shapeCast S16384x1024 (X m c) shapeCasts_S8x2048x1024_S16384x1024 (ix2 (at' t r) k) = _
  exact flat_row _ _ _

theorem iblk_cm (c : Dev nD) (t : Fin cfg0.N) (r : Fin 16) (k : Fin 1536) :
    (iblk m c 4 t : Vec Ideal S16x1536 .f32) (ix2 r k) = CM m c (ix2 r k) := by
  show (V m c main_arg4 : Vec Ideal S16x1536 .f32) ((win0_4.rect t).emb (ix2 r k)) = _
  rw [emb4]; rfl

theorem iblk_cw (c : Dev nD) (t : Fin cfg0.N) (r : Fin 3) (k : Fin 512) :
    (iblk m c 5 t : Vec Ideal S3x512 .f32) (ix2 r k) = CW m c (ix2 r k) := by
  show (V m c main_arg5 : Vec Ideal S3x512 .f32) ((win0_5.rect t).emb (ix2 r k)) = _
  rw [emb5]; rfl

theorem iblk_wa (c : Dev nD) (t : Fin cfg0.N) (r : Fin 512) (k : Fin 1024) :
    (iblk m c 6 t : Vec Ideal S512x1024 .bf16) (ix2 r k) = WA m c (ix2 r k) := by
  show (V m c main_v1 : Vec Ideal S512x1024 .bf16) ((win0_6.rect t).emb (ix2 r k)) = _
  rw [emb6]; rfl

theorem iblk_wb (c : Dev nD) (t : Fin cfg0.N) (r : Fin 512) (k : Fin 1024) :
    (iblk m c 7 t : Vec Ideal S512x1024 .bf16) (ix2 r k) = WB m c (ix2 r k) := by
  show (V m c main_v2 : Vec Ideal S512x1024 .bf16) ((win0_7.rect t).emb (ix2 r k)) = _
  rw [emb7]; rfl

theorem iblk_wo (c : Dev nD) (t : Fin cfg0.N) (r : Fin 1024) (k : Fin 1024) :
    (iblk m c 8 t : Vec Ideal S1024x1024 .bf16) (ix2 r k) = WO m c (ix2 r k) := by
  show (V m c main_v3 : Vec Ideal S1024x1024 .bf16) ((win0_8.rect t).emb (ix2 r k)) = _
  rw [emb8]; rfl

theorem iblk_gn (c : Dev nD) (t : Fin cfg0.N) (k : Fin 1024) :
    (iblk m c 9 t : Vec Ideal S1x1024 .f32) (ix2 0 k) = GN m c (ix1 k) := by
  show (V m c main_v4 : Vec Ideal S1x1024 .f32) ((win0_9.rect t).emb (ix2 0 k)) = _
  rw [emb9]
  show shapeCast S1x1024 (GN m c) shapeCasts_S1024_S1x1024 (ix2 0 k) = _
  generalize GN m c = g
  pointwise []

theorem iblk_wq (c : Dev nD) (t : Fin cfg0.N) (r : Fin 1024) (k : Fin 2048) :
    (iblk m c 10 t : Vec Ideal S1024x2048 .bf16) (ix2 r k) = WQ m c (ix2 r k) := by
  show (V m c main_v5 : Vec Ideal S1024x2048 .bf16) ((win0_10.rect t).emb (ix2 r k)) = _
  rw [emb10]; rfl

end Cert.Proof.Mixer

end
-- ==== Proof.Mixer.Ref.lean ====
/-
  The mixer's reference, read at one element.

  Row `R = 2048 b + s` of the flattened results is position `16 + s` of batch `b` in the sequence that has the 16 meta rows
  in front. The convolution at that position reads the gated products at the position and the two before it, which are never
  in the padding.
-/
module

public import proofs.«01_k».proof.Proof.Gen.Reference3Ideal.Read
public import proofs.«01_k».proof.Proof.InProj.Value

@[expose] public section

set_option maxRecDepth 16384

noncomputable section

namespace Cert.Proof.Mixer

open Idealize.ShloMosaic Idealize.ShloMosaic.TcCoe Idealize.SL.Sem
open Cert.Reference3Ideal Cert.Reference3Ideal.Read
open Cert.Proof.InProj (norm row)

/-! ## One element -/

/-- The gated product at row `p` of a batch's sequence, from the meta rows and the batch's rows of the input. -/
def gated (cv : Vec Ideal S16384x1536 .f32) (cm : Vec Ideal S16x1536 .f32) (b : Fin 8) (p : Fin 2064) (d : Fin 512) : EReal :=
  if h : p.val < 16 then cm (ix2 ⟨p.val, h⟩ ⟨512 + d.val, by omega⟩) * cm (ix2 ⟨p.val, h⟩ ⟨1024 + d.val, by omega⟩)
  else cv (ix2 ⟨b.val * 2048 + (p.val - 16), by omega⟩ ⟨512 + d.val, by omega⟩) * cv (ix2 ⟨b.val * 2048 + (p.val - 16), by omega⟩ ⟨1024 + d.val, by omega⟩)

/-- The convolution's branch at row `R`. -/
def convAt (cv : Vec Ideal S16384x1536 .f32) (cm : Vec Ideal S16x1536 .f32) (cw : Vec Ideal S3x512 .f32) (R : Fin 16384) (d : Fin 512) : EReal :=
  cv (ix2 R ⟨d.val, by omega⟩) *
    (gated cv cm ⟨R.val / 2048, by omega⟩ ⟨14 + R.val % 2048, by omega⟩ d * cw (ix2 0 d)
      + gated cv cm ⟨R.val / 2048, by omega⟩ ⟨15 + R.val % 2048, by omega⟩ d * cw (ix2 1 d)
      + gated cv cm ⟨R.val / 2048, by omega⟩ ⟨16 + R.val % 2048, by omega⟩ d * cw (ix2 2 d))

/-- The residual stream at row `R`: the row of the layer's input and the projection of the two gated branches. -/
def mixRow (x : Fin 1024 → EReal) (a o : Fin 512 → EReal) (ga gb : Fin 1024 → EReal) (wa wb : Fin 512 → Fin 1024 → EReal)
    (wo : Fin 1024 → Fin 1024 → EReal) (k : Fin 1024) : EReal :=
  x k + ∑ j, (Ideal.logistic (ga j) * (∑ d, a d * wa d j) + Ideal.logistic (gb j) * ∑ d, o d * wb d j) * wo j k

section
variable (x0 : Vec Ideal S16384x1536 .f32) (x1 : Vec Ideal S16384x512 .bf16) (x2 : Vec Ideal S16384x2048 .f32)
  (x3 : Vec Ideal S8x2048x1024 .f32) (x4 : Vec Ideal S16x1536 .f32) (x5 : Vec Ideal S3x512 .f32) (x6 x7 : Vec Ideal S512x1024 .f32)
  (x8 : Vec Ideal S1024x1024 .f32) (x9 : Vec Ideal S1024 .f32) (x10 : Vec Ideal S1024x2048 .f32)

/-- Row `R` of the residual stream, of its normalised form and of the routing queries. -/
def streamRow (R : Fin 16384) : Fin 1024 → EReal :=
  mixRow (row x3 R) (convAt x0 x4 x5 R) (fun d => x1 (ix2 R d)) (fun j => x2 (ix2 R ⟨j.val, by omega⟩))
    (fun j => x2 (ix2 R ⟨1024 + j.val, by omega⟩)) (fun d j => x6 (ix2 d j)) (fun d j => x7 (ix2 d j)) (fun j k => x8 (ix2 j k))
def normedRow (R : Fin 16384) : Fin 1024 → EReal := norm (streamRow x0 x1 x2 x3 x4 x5 x6 x7 x8 R) (fun k => x9 (ix1 k))
def queryRow (R : Fin 16384) (k : Fin 2048) : EReal := ∑ j, normedRow x0 x1 x2 x3 x4 x5 x6 x7 x8 x9 R j * x10 (ix2 j k)

theorem ref_gated (b : Fin 8) (p : Fin 2064) (d : Fin 512) : val_main_v7 (F := Ideal) x0 x4 (ix3 b p d) = gated x0 x4 b p d := by
  by_cases h : p.val < 16 <;>
    pointwise [val_main_v7, val_main_v6, val_main_v5, val_main_v3, val_main_v2, val_main_v1, val_main_v0, gated, h]

theorem ref_padded (b : Fin 8) (p : Fin 2066) (h : 2 ≤ p.val) (d : Fin 512) :
    val_main_v8 (F := Ideal) x0 x4 (ix3 b p d) = gated x0 x4 b ⟨p.val - 2, by omega⟩ d := by
  rw [← ref_gated]
  pointwise [val_main_v8, val_main_call0_v0]
  exact dif_pos ⟨h, by omega⟩

theorem ref_conv (R : Fin 16384) (d : Fin 512) :
    val_main_v30 (F := Ideal) x0 x4 x5 (ix3 ⟨R.val / 2048, by omega⟩ ⟨R.val % 2048, by omega⟩ d) = convAt x0 x4 x5 R d := by
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12,
    val_main_v11, val_main_v10, val_main_v9, val_main_v4, val_main_v3, val_main_v0]
  rw [ref_padded x0 x4 _ ⟨16 + R.val % 2048, by omega⟩ (by show 2 ≤ 16 + R.val % 2048; omega),
    ref_padded x0 x4 _ ⟨1 + (16 + R.val % 2048), by omega⟩ (by show 2 ≤ 1 + (16 + R.val % 2048); omega),
    ref_padded x0 x4 _ ⟨2 + (16 + R.val % 2048), by omega⟩ (by show 2 ≤ 2 + (16 + R.val % 2048); omega)]
  have e0 : (⟨16 + R.val % 2048 - 2, by omega⟩ : Fin 2064) = ⟨14 + R.val % 2048, by omega⟩ := Fin.ext (by show 16 + R.val % 2048 - 2 = 14 + R.val % 2048; omega)
  have e1 : (⟨1 + (16 + R.val % 2048) - 2, by omega⟩ : Fin 2064) = ⟨15 + R.val % 2048, by omega⟩ := Fin.ext (by show 1 + (16 + R.val % 2048) - 2 = 15 + R.val % 2048; omega)
  have e2 : (⟨2 + (16 + R.val % 2048) - 2, by omega⟩ : Fin 2064) = ⟨16 + R.val % 2048, by omega⟩ := Fin.ext (by show 2 + (16 + R.val % 2048) - 2 = 16 + R.val % 2048; omega)
  show x0 _ * (gated x0 x4 _ (⟨16 + R.val % 2048 - 2, by omega⟩ : Fin 2064) d * _ + gated x0 x4 _ (⟨1 + (16 + R.val % 2048) - 2, by omega⟩ : Fin 2064) d * _
    + gated x0 x4 _ (⟨2 + (16 + R.val % 2048) - 2, by omega⟩ : Fin 2064) d * _) = _
  rw [e0, e1, e2]; rfl

theorem ref_stream3 (R : Fin 16384) (k : Fin 1024) :
    val_main_v54 (F := Ideal) x0 x1 x2 x3 x4 x5 x6 x7 x8 (ix3 ⟨R.val / 2048, by omega⟩ ⟨R.val % 2048, by omega⟩ k)
      = streamRow x0 x1 x2 x3 x4 x5 x6 x7 x8 R k := by
  pointwise [val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37, val_main_v36,
    val_main_v35, val_main_v34, val_main_v33, val_main_v32, val_main_v31, val_main_cst, val_main_cst_0, val_main_cst_1, val_main_cst_2]
  simp only [ref_conv]
  rfl

theorem ref_normed3 (R : Fin 16384) (k : Fin 1024) :
    val_main_v67 (F := Ideal) x0 x1 x2 x3 x4 x5 x6 x7 x8 x9 (ix3 ⟨R.val / 2048, by omega⟩ ⟨R.val % 2048, by omega⟩ k)
      = normedRow x0 x1 x2 x3 x4 x5 x6 x7 x8 x9 R k := by
  pointwise [val_main_v67, val_main_v66, val_main_v65, val_main_v64, val_main_v63, val_main_v62, val_main_v61, val_main_v60, val_main_v59,
    val_main_v58, val_main_v57, val_main_v56, val_main_v55, val_main_cst_3, val_main_cst_4, val_main_cst_5]
  simp only [ref_stream3]
  rfl

theorem ref_stream (R : Fin 16384) (k : Fin 1024) :
    val_main_v69 (F := Ideal) x0 x1 x2 x3 x4 x5 x6 x7 x8 (ix2 R k) = streamRow x0 x1 x2 x3 x4 x5 x6 x7 x8 R k := by
  rw [← ref_stream3]
  pointwise [val_main_v69]

theorem ref_normed (R : Fin 16384) (k : Fin 1024) :
    val_main_v71 (F := Ideal) x0 x1 x2 x3 x4 x5 x6 x7 x8 x9 (ix2 R k) = normedRow x0 x1 x2 x3 x4 x5 x6 x7 x8 x9 R k := by
  rw [← ref_normed3]
  pointwise [val_main_v71, val_main_v70]

theorem ref_queries (R : Fin 16384) (k : Fin 2048) :
    val_main_v73 (F := Ideal) x0 x1 x2 x3 x4 x5 x6 x7 x8 x9 x10 (ix2 R k) = queryRow x0 x1 x2 x3 x4 x5 x6 x7 x8 x9 x10 R k := by
  pointwise [val_main_v73, val_main_v72, val_main_v68]
  exact Finset.sum_congr rfl fun j _ => congrArg (· * _) (ref_normed3 x0 x1 x2 x3 x4 x5 x6 x7 x8 x9 R j)

end

end Cert.Proof.Mixer

end
-- ==== Proof.Mixer.Value.lean ====
/-
  The mixer's three result arrays.

  The scratch at a point holds the gated products of 520 consecutive rows of the batch's sequence, the last 512 of them the
  block's own. Its first eight rows come from the meta tokens or from the scratch of the point before, whose last eight rows
  that point wrote from its own block. So the three rows the convolution reads are the reference's, and each result row is the
  reference's row.
-/
module

public import proofs.«01_k».proof.Proof.Mixer.Blocks
public import proofs.«01_k».proof.Proof.Mixer.Ref

@[expose] public section

set_option maxRecDepth 16384

noncomputable section

namespace Cert.Proof.Mixer

open Cert.Kernel3Ideal Cert.Kernel3Ideal.Gen Idealize.ShloMosaic Idealize.ShloMosaic.TcCoe Idealize.SL.Sem
open Cert.Proof.InProj (norm row)
open Cert.Reference3Ideal.Read

/-! ## The scratch -/

section Scratch
variable (x0 : Vec Ideal S512x1536 .f32) (x4 : Vec Ideal S16x1536 .f32) (xs : Vec Ideal S520x512 .f32)

theorem own_at (r : Fin 512) (d : Fin 512) : own.emb (ix2 r d) = ix2 (⟨8 + r.val, by omega⟩ : Fin 520) d :=
  eq_row (by rw [Rect.emb_apply]; show 8 + 1 * r.val = 8 + r.val; omega) (by rw [Rect.emb_apply]; show 0 + 1 * d.val = d.val; omega)

theorem hist_at (j : Fin 8) (d : Fin 512) : hist.emb (ix2 j d) = ix2 (⟨j.val, by omega⟩ : Fin 520) d :=
  eq_row (by rw [Rect.emb_apply]; show 0 + 1 * j.val = j.val; omega) (by rw [Rect.emb_apply]; show 0 + 1 * d.val = d.val; omega)

/-- A history row is none of the block's own. -/
theorem hist_off (j : Fin 8) (d : Fin 512) : ix2 (⟨j.val, by omega⟩ : Fin 520) d ∉ own.set := by
  rw [Rect.mem_set_unit]
  intro h
  have h8 : 8 ≤ j.val := (h 0).1
  omega

/-- The block's own rows of the scratch, whatever the history. -/
theorem scratch_own (L : List (View.Piece (Elt Ideal) S520x512 .f32)) (r : Fin 512) (d : Fin 512) :
    View.canon (⟨own, k0_pay4 (F := Ideal) (View.ld x0 colC) (View.ld x0 colU)⟩ :: L) (ix2 (⟨8 + r.val, by omega⟩ : Fin 520) d)
      = x0 (ix2 r ⟨512 + d.val, by omega⟩) * x0 (ix2 r ⟨1024 + d.val, by omega⟩) := by
  rw [← own_at, View.canon_cons_emb]
  pointwise [k0_pay4]

/-- The history rows of the scratch. -/
theorem scratch_hist (w : FVec Ideal S8x512 .f32) (j : Fin 8) (d : Fin 512) (q : FVec Ideal S512x512 .f32) :
    View.canon [(⟨own, q⟩ : View.Piece (Elt Ideal) S520x512 .f32), ⟨hist, w⟩] (ix2 (⟨j.val, by omega⟩ : Fin 520) d) = w (ix2 j d) := by
  refine (View.canon_cons_of_not_mem (⟨own, q⟩ : View.Piece (Elt Ideal) S520x512 .f32) _ (hist_off j d)).trans ?_
  rw [← hist_at]
  exact View.canon_cons_emb (Val := Elt Ideal) (e := .f32) hist w [] (ix2 j d)

theorem meta_hist (j : Fin 8) (d : Fin 512) :
    k0_pay2 (F := Ideal) (View.ld x4 metaC) (View.ld x4 metaU) (ix2 j d)
      = x4 (ix2 ⟨8 + j.val, by omega⟩ ⟨512 + d.val, by omega⟩) * x4 (ix2 ⟨8 + j.val, by omega⟩ ⟨1024 + d.val, by omega⟩) := by
  pointwise [k0_pay2]

theorem kept_hist (j : Fin 8) (d : Fin 512) :
    k0_pay3 (F := Ideal) (View.ld xs last) (ix2 j d) = xs (ix2 ⟨512 + j.val, by omega⟩ d) := by
  pointwise [k0_pay3]

end Scratch

section Block
variable (sc : Vec Ideal S520x512 .f32) (x0 : Vec Ideal S512x1536 .f32) (x1 : Vec Ideal S512x512 .bf16) (x2 : Vec Ideal S512x2048 .f32)
  (x3 : Vec Ideal S512x1024 .f32) (x5 : Vec Ideal S3x512 .f32) (x6 x7 : Vec Ideal S512x1024 .bf16) (x8 : Vec Ideal S1024x1024 .bf16)
  (x9 : Vec Ideal S1x1024 .f32) (x10 : Vec Ideal S1024x2048 .bf16)

theorem branch_at (r : Fin 512) (d : Fin 512) :
    branch sc x0 x5 (ix2 r d) = x0 (ix2 r ⟨d.val, by omega⟩) *
      (sc (ix2 ⟨6 + r.val, by omega⟩ d) * x5 (ix2 0 d) + sc (ix2 ⟨7 + r.val, by omega⟩ d) * x5 (ix2 1 d) + sc (ix2 ⟨8 + r.val, by omega⟩ d) * x5 (ix2 2 d)) := by
  pointwise [branch, k0_pay5]

theorem stream_at (r : Fin 512) (k : Fin 1024) :
    stream sc x0 x1 x2 x3 x5 x6 x7 x8 (ix2 r k) = mixRow (fun k => x3 (ix2 r k)) (fun d => branch sc x0 x5 (ix2 r d)) (fun d => x1 (ix2 r d))
      (fun j => x2 (ix2 r ⟨j.val, by omega⟩)) (fun j => x2 (ix2 r ⟨1024 + j.val, by omega⟩))
      (fun d j => x6 (ix2 d j)) (fun d j => x7 (ix2 d j)) (fun j k => x8 (ix2 j k)) k := by
  pointwise [stream, k0_pay6, mixRow]

theorem normed_at (r : Fin 512) (k : Fin 1024) :
    normed sc x0 x1 x2 x3 x5 x6 x7 x8 x9 (ix2 r k) = norm (fun k => stream sc x0 x1 x2 x3 x5 x6 x7 x8 (ix2 r k)) (fun k => x9 (ix2 0 k)) k := by
  pointwise [normed, k0_pay7]
  rfl

theorem queries_at (r : Fin 512) (k : Fin 2048) :
    queries sc x0 x1 x2 x3 x5 x6 x7 x8 x9 x10 (ix2 r k) = ∑ j, normed sc x0 x1 x2 x3 x5 x6 x7 x8 x9 (ix2 r j) * x10 (ix2 j k) := by
  pointwise [queries, k0_pay1]

end Block

/-! ## A point's four contents -/

variable (m : (ℓ : Loc nD τ sig) → Buf (Elt Ideal) ℓ)

/-- The batch of a point, and the sequence row its scratch's row `j` is. -/
def batch (t : Fin cfg0.N) : Fin 8 := ⟨t.val / 4, by have := t.isLt; have : cfg0.N = 32 := rfl; omega⟩
def seqRow (t : Fin cfg0.N) (j : Fin 520) : Fin 2064 := ⟨8 + t.val % 4 * 512 + j.val, by omega⟩

/-- The block of the convolution's input. -/
abbrev cvBlock (c : Dev nD) (t : Fin cfg0.N) : Vec Ideal S512x1536 .f32 := iblk m c 0 t

/-- The product a block's row gives is the sequence's. -/
theorem gated_own (c : Dev nD) (t : Fin cfg0.N) (r : Fin 512) (p : Fin 2064) (hp : p.val = 16 + t.val % 4 * 512 + r.val) (d : Fin 512) :
    cvBlock m c t (ix2 r ⟨512 + d.val, by omega⟩) * cvBlock m c t (ix2 r ⟨1024 + d.val, by omega⟩)
      = gated (CV m c) (CM m c) (batch t) p d := by
  have e : at' t r = (⟨(batch t).val * 2048 + (p.val - 16), by omega⟩ : Fin 16384) :=
    Fin.ext (by show t.val * 512 + r.val = t.val / 4 * 2048 + (p.val - 16); omega)
  have h (k : Fin 1536) : cvBlock m c t (ix2 r k) = CV m c (ix2 ⟨(batch t).val * 2048 + (p.val - 16), by omega⟩ k) := by rw [← e]; exact iblk_cv m c t r k
  rw [h, h]
  have h16 : ¬p.val < 16 := by omega
  rw [gated, dif_neg h16]

/-- The scratch a point leaves, at the block's own rows, -/
theorem left_own (c : Dev nD) (t : Fin cfg0.N) (r : Fin 512) (p : Fin 2064) (hp : p.val = 16 + t.val % 4 * 512 + r.val) (d : Fin 512) :
    sc m c t (ix2 (⟨8 + r.val, by omega⟩ : Fin 520) d) = gated (CV m c) (CM m c) (batch t) p d := by
  by_cases h0 : t.val % 4 = 0
  · rw [sc, left_first m c t h0, carryA, scratch_own]; exact gated_own m c t r p hp d
  · rw [sc, left_next m c t h0, carryB, scratch_own]; exact gated_own m c t r p hp d

/-- at the rows the meta tokens fill, -/
theorem left_meta (c : Dev nD) (t : Fin cfg0.N) (h0 : t.val % 4 = 0) (j : Fin 8) (d : Fin 512) :
    sc m c t (ix2 (⟨j.val, by omega⟩ : Fin 520) d) = gated (CV m c) (CM m c) (batch t) (seqRow t ⟨j.val, by omega⟩) d := by
  have hp : (seqRow t ⟨j.val, by omega⟩).val < 16 := by show 8 + t.val % 4 * 512 + j.val < 16; omega
  have e : (⟨8 + j.val, by omega⟩ : Fin 16) = ⟨(seqRow t ⟨j.val, by omega⟩).val, hp⟩ := Fin.ext (by show 8 + j.val = 8 + t.val % 4 * 512 + j.val; omega)
  rw [sc, left_first m c t h0, carryA, scratch_hist, meta_hist, iblk_cm, iblk_cm, e]
  rw [gated, dif_pos hp]

/-- at the rows kept from the point before, -/
theorem left_kept (c : Dev nD) (t : Fin cfg0.N) (h0 : ¬t.val % 4 = 0) (j : Fin 8) (d : Fin 512) :
    sc m c t (ix2 (⟨j.val, by omega⟩ : Fin 520) d) = gated (CV m c) (CM m c) (batch t) (seqRow t ⟨j.val, by omega⟩) d := by
  have ht : t.val - 1 < cfg0.N := Nat.lt_of_le_of_lt (Nat.sub_le _ _) t.isLt
  have hb : batch ⟨t.val - 1, ht⟩ = batch t := Fin.ext (by show (t.val - 1) / 4 = t.val / 4; omega)
  have e : (⟨512 + j.val, by omega⟩ : Fin 520) = ⟨8 + (⟨504 + j.val, by omega⟩ : Fin 512).val, by show 8 + (504 + j.val) < 520; omega⟩ :=
    Fin.ext (by show 512 + j.val = 8 + (504 + j.val); omega)
  have h := left_own m c ⟨t.val - 1, ht⟩ ⟨504 + j.val, by omega⟩ (seqRow t ⟨j.val, by omega⟩)
    (by show 8 + t.val % 4 * 512 + j.val = 16 + (t.val - 1) % 4 * 512 + (504 + j.val); omega) d
  rw [sc, left_next m c t h0, carryB, scratch_hist, kept_hist, e, ← hb]
  exact h

/-- so everywhere. -/
theorem left_at (c : Dev nD) (t : Fin cfg0.N) (j : Fin 520) (d : Fin 512) :
    sc m c t (ix2 j d) = gated (CV m c) (CM m c) (batch t) (seqRow t j) d := by
  by_cases h8 : j.val < 8
  · by_cases h0 : t.val % 4 = 0
    · exact left_meta m c t h0 ⟨j.val, h8⟩ d
    · exact left_kept m c t h0 ⟨j.val, h8⟩ d
  · have e : j = (⟨8 + (⟨j.val - 8, by omega⟩ : Fin 512).val, by show 8 + (j.val - 8) < 520; omega⟩ : Fin 520) :=
      Fin.ext (by show j.val = 8 + (j.val - 8); omega)
    have h := left_own m c t ⟨j.val - 8, by omega⟩ (seqRow t j) (by show 8 + t.val % 4 * 512 + j.val = 16 + t.val % 4 * 512 + (j.val - 8); omega) d
    exact (congrArg (fun j => sc m c t (ix2 j d)) e).trans h

section Rows
variable (c : Dev nD) (t : Fin cfg0.N) (r : Fin 512)

theorem branch_row (d : Fin 512) :
    branch (sc m c t) (iblk m c 0 t) (iblk m c 5 t) (ix2 r d) = convAt (CV m c) (CM m c) (CW m c) (at' t r) d := by
  have hb : batch t = ⟨(at' t r).val / 2048, by omega⟩ := Fin.ext (by show t.val / 4 = (t.val * 512 + r.val) / 2048; omega)
  have e0 : seqRow t ⟨6 + r.val, by omega⟩ = ⟨14 + (at' t r).val % 2048, by omega⟩ :=
    Fin.ext (by show 8 + t.val % 4 * 512 + (6 + r.val) = 14 + (t.val * 512 + r.val) % 2048; omega)
  have e1 : seqRow t ⟨7 + r.val, by omega⟩ = ⟨15 + (at' t r).val % 2048, by omega⟩ :=
    Fin.ext (by show 8 + t.val % 4 * 512 + (7 + r.val) = 15 + (t.val * 512 + r.val) % 2048; omega)
  have e2 : seqRow t ⟨8 + r.val, by omega⟩ = ⟨16 + (at' t r).val % 2048, by omega⟩ :=
    Fin.ext (by show 8 + t.val % 4 * 512 + (8 + r.val) = 16 + (t.val * 512 + r.val) % 2048; omega)
  rw [branch_at, iblk_cv, iblk_cw, iblk_cw, iblk_cw, left_at m c t ⟨6 + r.val, by omega⟩, left_at m c t ⟨7 + r.val, by omega⟩,
    left_at m c t ⟨8 + r.val, by omega⟩, e0, e1, e2, hb]
  rfl

theorem stream_row (k : Fin 1024) :
    (outsAt0 m c t.val t.isLt).1 (ix2 r k)
      = streamRow (CV m c) (O m c) (GT m c) (X m c) (CM m c) (CW m c) (WA m c) (WB m c) (WO m c) (at' t r) k := by
  rw [outs_stream, stream_at]
  simp only [branch_row, iblk_o, iblk_gt, iblk_x, iblk_wa, iblk_wb, iblk_wo]
  rfl

theorem normed_row (k : Fin 1024) :
    (outsAt0 m c t.val t.isLt).2.1 (ix2 r k)
      = normedRow (CV m c) (O m c) (GT m c) (X m c) (CM m c) (CW m c) (WA m c) (WB m c) (WO m c) (GN m c) (at' t r) k := by
  rw [outs_normed, normed_at, ← outs_stream]
  simp only [stream_row, iblk_gn]
  rfl

theorem query_row (k : Fin 2048) :
    (outsAt0 m c t.val t.isLt).2.2.1 (ix2 r k)
      = queryRow (CV m c) (O m c) (GT m c) (X m c) (CM m c) (CW m c) (WA m c) (WB m c) (WO m c) (GN m c) (WQ m c) (at' t r) k := by
  rw [outs_queries, queries_at, ← outs_normed]
  simp only [normed_row, iblk_wq]
  rfl

end Rows

/-! ## The three arrays -/

theorem arr_stream (c : Dev nD) : (dats m 0 c).arrAt 11 cfg0.N
    = val_main_v69 (F := Ideal) (CV m c) (O m c) (GT m c) (X m c) (CM m c) (CW m c) (WA m c) (WB m c) (WO m c) := by
  refine (dats m 0 c).arrAt_eq_of_cover 11 _ (fun t _ => ?_) (fun i => ?_)
  · funext y
    obtain ⟨r, k, rfl⟩ : ∃ (r : Fin 512) (k : Fin 1024), y = ix2 r k := ⟨y 0, y 1, eq_ix2 y⟩
    show (outsAt0 m c t.val t.isLt).1 (ix2 r k) = val_main_v69 (F := Ideal) _ _ _ _ _ _ _ _ _ ((win0_11.rect t).emb (ix2 r k))
    rw [emb11, ref_stream, stream_row]
  · obtain ⟨R, k, rfl⟩ : ∃ (R : Fin 16384) (k : Fin 1024), i = ix2 R k := ⟨i 0, i 1, eq_ix2 i⟩
    obtain ⟨t, r, rfl⟩ := at_row R
    refine ⟨t, flush0_11 t, ?_⟩
    rw [← emb11]
    exact View.emb_mem_set ((cfg0.win 11).blk t).view (ix2 r k)

theorem arr_normed (c : Dev nD) : (dats m 0 c).arrAt 12 cfg0.N
    = val_main_v71 (F := Ideal) (CV m c) (O m c) (GT m c) (X m c) (CM m c) (CW m c) (WA m c) (WB m c) (WO m c) (GN m c) := by
  refine (dats m 0 c).arrAt_eq_of_cover 12 _ (fun t _ => ?_) (fun i => ?_)
  · funext y
    obtain ⟨r, k, rfl⟩ : ∃ (r : Fin 512) (k : Fin 1024), y = ix2 r k := ⟨y 0, y 1, eq_ix2 y⟩
    show (outsAt0 m c t.val t.isLt).2.1 (ix2 r k) = val_main_v71 (F := Ideal) _ _ _ _ _ _ _ _ _ _ ((win0_12.rect t).emb (ix2 r k))
    rw [emb12, ref_normed, normed_row]
  · obtain ⟨R, k, rfl⟩ : ∃ (R : Fin 16384) (k : Fin 1024), i = ix2 R k := ⟨i 0, i 1, eq_ix2 i⟩
    obtain ⟨t, r, rfl⟩ := at_row R
    refine ⟨t, flush0_12 t, ?_⟩
    rw [← emb12]
    exact View.emb_mem_set ((cfg0.win 12).blk t).view (ix2 r k)

theorem arr_queries (c : Dev nD) : (dats m 0 c).arrAt 13 cfg0.N
    = val_main_v73 (F := Ideal) (CV m c) (O m c) (GT m c) (X m c) (CM m c) (CW m c) (WA m c) (WB m c) (WO m c) (GN m c) (WQ m c) := by
  refine (dats m 0 c).arrAt_eq_of_cover 13 _ (fun t _ => ?_) (fun i => ?_)
  · funext y
    obtain ⟨r, k, rfl⟩ : ∃ (r : Fin 512) (k : Fin 2048), y = ix2 r k := ⟨y 0, y 1, eq_ix2 y⟩
    show (outsAt0 m c t.val t.isLt).2.2.1 (ix2 r k) = val_main_v73 (F := Ideal) _ _ _ _ _ _ _ _ _ _ _ ((win0_13.rect t).emb (ix2 r k))
    rw [emb13, ref_queries, query_row]
  · obtain ⟨R, k, rfl⟩ : ∃ (R : Fin 16384) (k : Fin 2048), i = ix2 R k := ⟨i 0, i 1, eq_ix2 i⟩
    obtain ⟨t, r, rfl⟩ := at_row R
    refine ⟨t, flush0_13 t, ?_⟩
    rw [← emb13]
    exact View.emb_mem_set ((cfg0.win 13).blk t).view (ix2 r k)

end Cert.Proof.Mixer

end
-- ==== Proof.Mixer.Claim.lean ====
/-
  The mixer's value claim: over the reals extended by ±∞ the kernel and the reference end with the same three results, and the
  reference leaves its arguments as they were.
-/
module

public import proofs.«01_k».proof.Defs
public import proofs.«01_k».proof.Proof.Mixer.Value
public import proofs.«01_k».proof.Proof.Gen.Reference3Ideal.Run

@[expose] public section

noncomputable section

namespace Cert.Proof.Mixer

open Idealize.ShloMosaic Idealize.ShloMosaic.TcCoe Idealize.SL.Sem
open Cert.Reference3Ideal.Read

/-- The three results are the reference's, in both programs. -/
theorem algebraic : Cert.algebraic_Kernel3Ideal_Reference3Ideal := by
  intro m g m' g' _ hargs
  refine ⟨fun c => val_main_v69 (F := Ideal) (CV m c) (O m c) (GT m c) (X m c) (CM m c) (CW m c) (WA m c) (WB m c) (WO m c),
    fun c => val_main_v71 (F := Ideal) (CV m c) (O m c) (GT m c) (X m c) (CM m c) (CW m c) (WA m c) (WB m c) (WO m c) (GN m c),
    fun c => val_main_v73 (F := Ideal) (CV m c) (O m c) (GT m c) (X m c) (CM m c) (CW m c) (WA m c) (WB m c) (WO m c) (GN m c) (WQ m c), ?_, ?_⟩
  · refine (θ_run Cert.Kernel3Ideal.defs _ _).mono (fun r h c => ?_) (Cert.Kernel3Ideal.Value.run_blocks m g)
    obtain ⟨h0, h1, h2, hrest⟩ := h c
    exact ⟨h0.trans (arr_stream m c), h1.trans (arr_normed m c), h2.trans (arr_queries m c), hrest⟩
  · refine (θ_run Cert.Reference3Ideal.defs _ _).mono (fun r h c => ?_) (Cert.Reference3Ideal.Value.run m' g')
    obtain ⟨h0, h1, h2, hrest⟩ := h c
    obtain ⟨a0, a1, a2, a3, a4, a5, a6, a7, a8, a9, a10⟩ := hargs c
    refine ⟨h0.trans ?_, h1.trans ?_, h2.trans ?_, hrest⟩
    · rw [val_main_v69_eq, a0, a1, a2, a3, a4, a5, a6, a7, a8]
    · rw [val_main_v71_eq, a0, a1, a2, a3, a4, a5, a6, a7, a8, a9]
    · rw [val_main_v73_eq, a0, a1, a2, a3, a4, a5, a6, a7, a8, a9, a10]

end Cert.Proof.Mixer

end
-- ==== Proof.Experts.Outs.lean ====
/-
  The experts' program, one grid point: what its accumulator and its result hold, written as payloads of the point's input
  blocks. The first point of a token block clears the accumulator, every point adds its 1024 experts, and the last one writes
  the norm of the residual rows plus the accumulator.
-/
module

public import proofs.«01_k».proof.Proof.Gen.Kernel4Ideal.Value

@[expose] public section

set_option maxRecDepth 16384

noncomputable section

namespace Cert.Proof.Experts

open Cert.Kernel4Ideal Cert.Kernel4Ideal.Gen Idealize.ShloMosaic Idealize.ShloMosaic.TcCoe Idealize.SL.Sem

variable {F : FTy → Type} [FloatOps F]

theorem zero2 : (![0, 0] : Fin 2 → ℕ) = fun _ => 0 := funext fun a => by fin_cases a <;> rfl

/-! The loads and the stores of whole blocks. -/

theorem ld_block {e : EltTy} (X : Vec F S1024x1024 e) (h) : View.ld X (Rect.unit (s := S1024x1024) ![0, 0] ![1024, 1024] h) = X :=
  View.ld_unit_zero zero2 h X
theorem ld_gain {e : EltTy} (X : Vec F S1x1024 e) (h) : View.ld X (Rect.unit (s := S1x1024) ![0, 0] ![1, 1024] h) = X :=
  View.ld_unit_zero zero2 h X

/-- A whole block written last is what is read back. -/
theorem put_block {e : EltTy} (X : Vec F S1024x1024 e) (h) (L : List (View.Piece (Elt F) S1024x1024 e)) :
    View.canon ((⟨Rect.unit (s := S1024x1024) ![0, 0] ![1024, 1024] h, X⟩ : View.Piece (Elt F) S1024x1024 e) :: L) = X := by
  funext y
  have hy : (Rect.unit (s := S1024x1024) ![0, 0] ![1024, 1024] h).emb y = y := by
    funext a; apply Fin.ext; rw [Rect.emb_apply]
    match a with
    | ⟨0, _⟩ => show 0 + 1 * (y 0).val = (y 0).val; omega
    | ⟨1, _⟩ => show 0 + 1 * (y 1).val = (y 1).val; omega
  have := View.canon_cons_emb (Val := Elt F) (e := e) (Rect.unit (s := S1024x1024) ![0, 0] ![1024, 1024] h) X L y
  rwa [hy] at this

/-- The accumulator read back. -/
theorem read_acc (h : (Memref.whole cc0_scratch0 : Memref sig .tc .vmem S1024x1024 .f32).IsWhole) (X : Vec F S1024x1024 .f32) :
    View.read (Elt F) (View.whole cc0_scratch0) (h.unread X) = X := h.read_unread X

/-- The same of the elements one by one. -/
theorem ld_elems {e : EltTy} (X : Vec F S1024x1024 e) (h) :
    (fun j => X ((Rect.unit (s := S1024x1024) ![0, 0] ![1024, 1024] h).idx j)) = X := ld_block X h

variable (m : (ℓ : Loc nD τ sig) → Buf (Elt F) ℓ) (c : Dev nD) (t : Fin cfg0.N)

/-- The accumulator after a point, over what it held. -/
def added (acc : Vec F S1024x1024 .f32) : Vec F S1024x1024 .f32 :=
  k0_pay3 (iblk m c 0 t) (iblk m c 1 t) (iblk m c 3 t) acc (iblk m c 2 t)

/-- The accumulator that the point before left. -/
abbrev before : Vec F S1024x1024 .f32 := (outsAt0 m c (t.val - 1) (Nat.lt_of_le_of_lt (Nat.sub_le _ _) t.isLt)).2

theorem acc_first (h0 : t.val % 16 = 0) : (outsAt0 m c t.val t.isLt).2 = added m c t (k0_pay2 (F := F)) := by
  rw [outsAt0_A m c t h0 (by omega)]
  unfold sout0_A_0 kernelRun0_A
  dsimp only
  unfold kernelRun0_A.sl.v24 kernelRun0_A.sl.HS0_1
  simp only [View.read_writes_junk_eq_canon, View.readCov_eq_canon', View.readAt_writes_junk_eq_canon, View.readAt_eq_ld, Memref.IsWhole.read_unread,
    read_acc, ld_block, ld_gain, put_block]
  exact congrArg (fun a => k0_pay3 (iblk m c 0 t) (iblk m c 1 t) (iblk m c 3 t) a (iblk m c 2 t)) (ld_elems (e := .f32) (k0_pay2 (F := F)) inb_S1024x1024_S1024x1024_0_0)

theorem acc_next (h0 : ¬t.val % 16 = 0) : (outsAt0 m c t.val t.isLt).2 = added m c t (before m c t) := by
  by_cases h1 : t.val % 16 = 15
  · rw [outsAt0_C m c t h0 h1]
    unfold sout0_C_0 kernelRun0_C
    dsimp only
    unfold kernelRun0_C.sl.HS0_1
    simp only [View.read_writes_junk_eq_canon, View.readCov_eq_canon', View.readAt_writes_junk_eq_canon, View.readAt_eq_ld, Memref.IsWhole.read_unread,
      read_acc, ld_block, ld_gain, put_block]
    rfl
  · rw [outsAt0_B m c t h0 h1]
    unfold sout0_B_0 kernelRun0_B
    dsimp only
    simp only [View.read_writes_junk_eq_canon, View.readCov_eq_canon', View.readAt_writes_junk_eq_canon, View.readAt_eq_ld, Memref.IsWhole.read_unread,
      read_acc, ld_block, ld_gain, put_block]
    rfl

theorem out_last (h1 : t.val % 16 = 15) :
    (outsAt0 m c t.val t.isLt).1 = k0_pay1 (iblk m c 4 t) (outsAt0 m c t.val t.isLt).2 (iblk m c 5 t) := by
  have h0 : ¬t.val % 16 = 0 := by omega
  rw [acc_next m c t h0, outsAt0_C m c t h0 h1]
  unfold out0_C_6 kernelRun0_C
  dsimp only
  unfold kernelRun0_C.sl.v36
  unfold kernelRun0_C.sl.HS0_1
  simp only [View.read_writes_junk_eq_canon, View.readCov_eq_canon', View.readAt_writes_junk_eq_canon, View.readAt_eq_ld, Memref.IsWhole.read_unread,
    read_acc, ld_block, ld_gain, put_block]
  exact congrArg (fun a => k0_pay1 (iblk m c 4 t) a (iblk m c 5 t)) (ld_elems (e := .f32) (added m c t (before m c t)) inb_S1024x1024_S1024x1024_0_0)

end Cert.Proof.Experts

end
-- ==== Proof.Experts.Blocks.lean ====
/-
  The experts' blocks: where each window's block lies in its array, and what the input blocks hold of the arguments.

  Point `t` holds the token block `t / 16` and the expert block `t % 16`, each of 1024 rows.
-/
module

public import proofs.«01_k».proof.Proof.Experts.Outs
public import Idealize.ShloMosaic.Lib.Pointwise

@[expose] public section

set_option maxRecDepth 16384

noncomputable section

namespace Cert.Proof.Experts

open Cert.Kernel4Ideal Cert.Kernel4Ideal.Gen Idealize.ShloMosaic Idealize.ShloMosaic.TcCoe Idealize.SL.Sem

theorem points (t : Fin cfg0.N) : t.val < 256 := lt_of_lt_of_eq t.isLt N_0

/-- Row `r` of point `t`'s token block, -/
def at' (t : Fin cfg0.N) (r : Fin 1024) : Fin 16384 := ⟨t.val / 16 * 1024 + r.val, by have := points t; omega⟩

/-- and expert `e` of its expert block. -/
def ex (t : Fin cfg0.N) (e : Fin 1024) : Fin 16384 := ⟨t.val % 16 * 1024 + e.val, by omega⟩

/-- Every row is a row of the block of some point that is the last of its sixteen. -/
theorem at_row (R : Fin 16384) : ∃ (t : Fin cfg0.N) (r : Fin 1024), t.val % 16 = 15 ∧ at' t r = R :=
  ⟨⟨R.val / 1024 * 16 + 15, lt_of_lt_of_eq (by omega) N_0.symm⟩, ⟨R.val % 1024, by omega⟩, by show (R.val / 1024 * 16 + 15) % 16 = 15; omega,
    Fin.ext (by show (R.val / 1024 * 16 + 15) / 16 * 1024 + R.val % 1024 = R.val; omega)⟩

/-- A two-axis index from its coordinates. -/
theorem eq_row {A B : ℕ} {R : Fin A} {k : Fin B} {y : (⟨2, ![A, B]⟩ : Shape).Idx} (h0 : (y 0).val = R.val) (h1 : (y 1).val = k.val) :
    y = ix2 R k := (eq_ix2 y).trans (congrArg₂ ix2 (Fin.ext h0) (Fin.ext h1))

theorem off0 : ∀ t : Fin grid0.N, win0_0.index t 0 = t.val / 16 ∧ win0_0.index t 1 = 0 := by decide +kernel
theorem off1 : ∀ t : Fin grid0.N, win0_1.index t 0 = t.val % 16 ∧ win0_1.index t 1 = 0 := by decide +kernel
theorem off2 : ∀ t : Fin grid0.N, win0_2.index t 0 = t.val % 16 ∧ win0_2.index t 1 = 0 := by decide +kernel
theorem off3 : ∀ t : Fin grid0.N, win0_3.index t 0 = t.val / 16 ∧ win0_3.index t 1 = t.val % 16 := by decide +kernel
theorem off4 : ∀ t : Fin grid0.N, win0_4.index t 0 = t.val / 16 ∧ win0_4.index t 1 = 0 := by decide +kernel
theorem off5 : ∀ t : Fin grid0.N, win0_5.index t 0 = 0 ∧ win0_5.index t 1 = 0 := by decide +kernel
theorem off6 : ∀ t : Fin grid0.N, win0_6.index t 0 = t.val / 16 ∧ win0_6.index t 1 = 0 := by decide +kernel

theorem emb0 (t : Fin cfg0.N) (r k : Fin 1024) : (win0_0.rect t).emb (ix2 r k) = ix2 (at' t r) k :=
  eq_row (by rw [Pipeline.Window.rect_emb_val_off]; show win0_0.index t 0 * 1024 + r.val = t.val / 16 * 1024 + r.val; rw [(off0 t).1])
    (by rw [Pipeline.Window.rect_emb_val_off]; show win0_0.index t 1 * 1024 + k.val = _; rw [(off0 t).2]; omega)

theorem emb1 (t : Fin cfg0.N) (e k : Fin 1024) : (win0_1.rect t).emb (ix2 e k) = ix2 (ex t e) k :=
  eq_row (by rw [Pipeline.Window.rect_emb_val_off]; show win0_1.index t 0 * 1024 + e.val = t.val % 16 * 1024 + e.val; rw [(off1 t).1])
    (by rw [Pipeline.Window.rect_emb_val_off]; show win0_1.index t 1 * 1024 + k.val = _; rw [(off1 t).2]; omega)

theorem emb2 (t : Fin cfg0.N) (e k : Fin 1024) : (win0_2.rect t).emb (ix2 e k) = ix2 (ex t e) k :=
  eq_row (by rw [Pipeline.Window.rect_emb_val_off]; show win0_2.index t 0 * 1024 + e.val = t.val % 16 * 1024 + e.val; rw [(off2 t).1])
    (by rw [Pipeline.Window.rect_emb_val_off]; show win0_2.index t 1 * 1024 + k.val = _; rw [(off2 t).2]; omega)

theorem emb3 (t : Fin cfg0.N) (r e : Fin 1024) : (win0_3.rect t).emb (ix2 r e) = ix2 (at' t r) (ex t e) :=
  eq_row (by rw [Pipeline.Window.rect_emb_val_off]; show win0_3.index t 0 * 1024 + r.val = t.val / 16 * 1024 + r.val; rw [(off3 t).1])
    (by rw [Pipeline.Window.rect_emb_val_off]; show win0_3.index t 1 * 1024 + e.val = t.val % 16 * 1024 + e.val; rw [(off3 t).2])

theorem emb4 (t : Fin cfg0.N) (r k : Fin 1024) : (win0_4.rect t).emb (ix2 r k) = ix2 (at' t r) k :=
  eq_row (by rw [Pipeline.Window.rect_emb_val_off]; show win0_4.index t 0 * 1024 + r.val = t.val / 16 * 1024 + r.val; rw [(off4 t).1])
    (by rw [Pipeline.Window.rect_emb_val_off]; show win0_4.index t 1 * 1024 + k.val = _; rw [(off4 t).2]; omega)

theorem emb5 (t : Fin cfg0.N) (k : Fin 1024) : (win0_5.rect t).emb (ix2 0 k) = ix2 0 k :=
  eq_row (by rw [Pipeline.Window.rect_emb_val_off]; show win0_5.index t 0 * 1 + 0 = _; rw [(off5 t).1]; rfl)
    (by rw [Pipeline.Window.rect_emb_val_off]; show win0_5.index t 1 * 1024 + k.val = _; rw [(off5 t).2]; omega)

theorem emb6 (t : Fin cfg0.N) (r k : Fin 1024) : (win0_6.rect t).emb (ix2 r k) = ix2 (at' t r) k :=
  eq_row (by rw [Pipeline.Window.rect_emb_val_off]; show win0_6.index t 0 * 1024 + r.val = t.val / 16 * 1024 + r.val; rw [(off6 t).1])
    (by rw [Pipeline.Window.rect_emb_val_off]; show win0_6.index t 1 * 1024 + k.val = _; rw [(off6 t).2]; omega)

variable (m : (ℓ : Loc nD τ sig) → Buf (Elt Ideal) ℓ)

/-! The arguments, as the reference reads them. -/

abbrev H (c : Dev nD) : Vec Ideal S16384x1024 .bf16 := m ((c : Thread nD τ).loc main_arg0)
abbrev PU (c : Dev nD) : Vec Ideal S16384x1024 .f32 := m ((c : Thread nD τ).loc main_arg1)
abbrev PV (c : Dev nD) : Vec Ideal S16384x1024 .f32 := m ((c : Thread nD τ).loc main_arg2)
abbrev WT (c : Dev nD) : Vec Ideal S16384x16384 .bf16 := m ((c : Thread nD τ).loc main_arg3)
abbrev X1 (c : Dev nD) : Vec Ideal S16384x1024 .f32 := m ((c : Thread nD τ).loc main_arg4)
abbrev GN (c : Dev nD) : Vec Ideal S1024 .f32 := m ((c : Thread nD τ).loc main_arg5)

theorem iblk_h (c : Dev nD) (t : Fin cfg0.N) (r k : Fin 1024) :
    (iblk m c 0 t : Vec Ideal S1024x1024 .bf16) (ix2 r k) = H m c (ix2 (at' t r) k) := by
  show (V m c main_arg0 : Vec Ideal S16384x1024 .bf16) ((win0_0.rect t).emb (ix2 r k)) = _
  rw [emb0]; rfl

theorem iblk_pu (c : Dev nD) (t : Fin cfg0.N) (e k : Fin 1024) :
    (iblk m c 1 t : Vec Ideal S1024x1024 .f32) (ix2 e k) = PU m c (ix2 (ex t e) k) := by
  show (V m c main_arg1 : Vec Ideal S16384x1024 .f32) ((win0_1.rect t).emb (ix2 e k)) = _
  rw [emb1]; rfl

theorem iblk_pv (c : Dev nD) (t : Fin cfg0.N) (e k : Fin 1024) :
    (iblk m c 2 t : Vec Ideal S1024x1024 .f32) (ix2 e k) = PV m c (ix2 (ex t e) k) := by
  show (V m c main_arg2 : Vec Ideal S16384x1024 .f32) ((win0_2.rect t).emb (ix2 e k)) = _
  rw [emb2]; rfl

theorem iblk_wt (c : Dev nD) (t : Fin cfg0.N) (r e : Fin 1024) :
    (iblk m c 3 t : Vec Ideal S1024x1024 .bf16) (ix2 r e) = WT m c (ix2 (at' t r) (ex t e)) := by
  show (V m c main_arg3 : Vec Ideal S16384x16384 .bf16) ((win0_3.rect t).emb (ix2 r e)) = _
  rw [emb3]; rfl

theorem iblk_x1 (c : Dev nD) (t : Fin cfg0.N) (r k : Fin 1024) :
    (iblk m c 4 t : Vec Ideal S1024x1024 .f32) (ix2 r k) = X1 m c (ix2 (at' t r) k) := by
  show (V m c main_arg4 : Vec Ideal S16384x1024 .f32) ((win0_4.rect t).emb (ix2 r k)) = _
  rw [emb4]; rfl

theorem iblk_gn (c : Dev nD) (t : Fin cfg0.N) (k : Fin 1024) :
    (iblk m c 5 t : Vec Ideal S1x1024 .f32) (ix2 0 k) = GN m c (ix1 k) := by
  show (V m c main_v0 : Vec Ideal S1x1024 .f32) ((win0_5.rect t).emb (ix2 0 k)) = _
  rw [emb5]
  show shapeCast S1x1024 (GN m c) shapeCasts_S1024_S1x1024 (ix2 0 k) = _
  generalize GN m c = g
  pointwise []

end Cert.Proof.Experts

end
-- ==== Proof.Experts.Ref.lean ====
/-
  The experts' reference, read at one element: the last norm of the residual row plus the weighted sum of the experts.
-/
module

public import proofs.«01_k».proof.Proof.Gen.Reference4Ideal.Read
public import proofs.«01_k».proof.Proof.InProj.Value

@[expose] public section

set_option maxRecDepth 16384

noncomputable section

namespace Cert.Proof.Experts

open Idealize.ShloMosaic Idealize.ShloMosaic.TcCoe Idealize.SL.Sem
open Cert.Reference4Ideal Cert.Reference4Ideal.Read
open Cert.Proof.InProj (norm)

/-- The factor of the gelu, by its tanh formula, -/
def half (s : EReal) : EReal :=
  Ideal.ofBits .f32 0x3F000000#32
    * (1 + Ideal.tanh (Ideal.ofBits .f32 0x3F4C422A#32 * (s + Ideal.ofBits .f32 0x3D372713#32 * (s * (s * s)))))

/-- and the gelu. -/
def gelu (s : EReal) : EReal := s * half s

section
variable (x0 : Vec Ideal S16384x1024 .bf16) (x1 x2 : Vec Ideal S16384x1024 .f32) (x3 : Vec Ideal S16384x16384 .bf16)
  (x4 : Vec Ideal S16384x1024 .f32) (x5 : Vec Ideal S1024 .f32)

/-- What expert `e` adds to element `(R, k)`. -/
def expert (R : Fin 16384) (k : Fin 1024) (e : Fin 16384) : EReal :=
  x3 (ix2 R e) * gelu (∑ l, x0 (ix2 R l) * x1 (ix2 e l)) * x2 (ix2 e k)

/-- Row `R` of the layer's result. -/
def outRow (R : Fin 16384) : Fin 1024 → EReal :=
  norm (fun k => x4 (ix2 R k) + ∑ e, expert x0 x1 x2 x3 R k e) (fun k => x5 (ix1 k))

/-- The score of an expert, -/
theorem ref_score (R e : Fin 16384) :
    val_main_v2 (F := Ideal) x0 x1 (ix2 R e) = ∑ l, x0 (ix2 R l) * x1 (ix2 e l) := by
  pointwise [val_main_v2, val_main_v1, val_main_v0]

/-- and the factor its gelu multiplies it by. -/
theorem ref_half (R e : Fin 16384) :
    val_main_v14 (F := Ideal) x0 x1 (ix2 R e)
      = half (∑ l, x0 (ix2 R l) * x1 (ix2 e l)) := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_cst_2, half]
  generalize ∑ l, x0 (ix2 R l) * x1 (ix2 e l) = s
  rw [mul_comm (s * s) s]

theorem ref_stream (R : Fin 16384) (k : Fin 1024) :
    val_main_v19 (F := Ideal) x0 x1 x2 x3 x4 (ix2 R k) = x4 (ix2 R k) + ∑ e, expert x0 x1 x2 x3 R k e := by
  pointwise [val_main_v19, val_main_v18, val_main_v17, val_main_v16, val_main_v15, expert]
  refine congrArg (x4 (ix2 R k) + ·) (Finset.sum_congr rfl fun e _ => ?_)
  rw [ref_score, ref_half, gelu]

theorem ref_out (R : Fin 16384) (k : Fin 1024) :
    val_main_v32 (F := Ideal) x0 x1 x2 x3 x4 x5 (ix2 R k) = outRow x0 x1 x2 x3 x4 x5 R k := by
  pointwise [val_main_v32, val_main_v31, val_main_v30, val_main_v29, val_main_v28, val_main_v27, val_main_v26, val_main_v25,
    val_main_v24, val_main_v23, val_main_v22, val_main_v21, val_main_v20, val_main_cst_3, val_main_cst_4, val_main_cst_5, outRow, Cert.Proof.InProj.norm]
  simp only [ref_stream]

end

end Cert.Proof.Experts

end
-- ==== Proof.Experts.Value.lean ====
/-
  The experts: what the kernel's result holds, and that the reference's result holds the same.

  The kernel goes through the experts in sixteen blocks of 1024 and adds each block's part to an accumulator. After the
  points of a token block up to `t` the accumulator holds the sum over the first `1024 (t % 16 + 1)` experts; after the last
  of the sixteen that is the whole sum, which the residual stream is added to and the last norm applied.
-/
module

public import proofs.«01_k».proof.Proof.Experts.Blocks
public import proofs.«01_k».proof.Proof.Experts.Ref

@[expose] public section

set_option maxRecDepth 16384

noncomputable section

namespace Cert.Proof.Experts

open Cert.Kernel4Ideal Cert.Kernel4Ideal.Gen Idealize.ShloMosaic Idealize.ShloMosaic.TcCoe Idealize.SL.Sem
open Cert.Reference4Ideal.Read (val_main_v32)
open Idealize.ShloMosaic.Pipeline (Dat)

/-! ## The payloads at one element -/

section Payload
variable (h w : Vec Ideal S1024x1024 .bf16) (u v acc x : Vec Ideal S1024x1024 .f32) (g : Vec Ideal S1x1024 .f32)

theorem zero_at (r k : Fin 1024) : k0_pay2 (F := Ideal) (ix2 r k) = 0 := by
  pointwise [k0_pay2]

theorem added_at' (r k : Fin 1024) :
    k0_pay3 (F := Ideal) h u w acc v (ix2 r k)
      = acc (ix2 r k) + ∑ e, w (ix2 r e) * gelu (∑ l, h (ix2 r l) * u (ix2 e l)) * v (ix2 e k) := by
  pointwise [k0_pay3, gelu, half]

theorem out_at (r k : Fin 1024) :
    k0_pay1 (F := Ideal) x acc g (ix2 r k)
      = InProj.norm (fun k => x (ix2 r k) + acc (ix2 r k)) (fun k => g (ix2 0 k)) k := by
  pointwise [k0_pay1, Cert.Proof.InProj.norm]

end Payload

/-! ## The accumulator -/

variable (m : (ℓ : Loc nD τ sig) → Buf (Elt Ideal) ℓ) (c : Dev nD)

/-- What expert number `n` adds to element `(R, k)`; nothing past the last expert. -/
def term (R : Fin 16384) (k : Fin 1024) (n : ℕ) : EReal :=
  if hn : n < 16384 then expert (H m c) (PU m c) (PV m c) (WT m c) R k ⟨n, hn⟩ else 0

/-- A point adds its expert block's part. -/
theorem added_at (t : Fin cfg0.N) (acc : Vec Ideal S1024x1024 .f32) (r k : Fin 1024) :
    added m c t acc (ix2 r k)
      = acc (ix2 r k) + ∑ i ∈ Finset.range 1024, term m c (at' t r) k (1024 * (t.val % 16) + i) := by
  rw [added, added_at', Finset.sum_range]
  refine congrArg (acc (ix2 r k) + ·) (Finset.sum_congr rfl fun e _ => ?_)
  have he : 1024 * (t.val % 16) + e.val < 16384 := by omega
  have hx : (⟨1024 * (t.val % 16) + e.val, he⟩ : Fin 16384) = ex t e := Fin.ext (by show 1024 * (t.val % 16) + e.val = t.val % 16 * 1024 + e.val; omega)
  rw [term, dif_pos he, hx, expert, iblk_wt, iblk_pv]
  simp only [iblk_h, iblk_pu]

/-- The accumulator after a point: the sum over the experts so far. -/
theorem acc_at : ∀ (n : ℕ) (hn : n < cfg0.N) (r k : Fin 1024),
    (outsAt0 m c n hn).2 (ix2 r k) = ∑ i ∈ Finset.range (1024 * (n % 16 + 1)), term m c (at' ⟨n, hn⟩ r) k i := by
  intro n
  induction n with
  | zero =>
    intro hn r k
    refine (congrFun (acc_first m c ⟨0, hn⟩ rfl) (ix2 r k)).trans ?_
    rw [added_at, zero_at, zero_add]
    refine Finset.sum_congr rfl fun i _ => congrArg _ ?_
    show 1024 * (0 % 16) + i = i; omega
  | succ n ih =>
    intro hn r k
    by_cases h0 : (n + 1) % 16 = 0
    · refine (congrFun (acc_first m c ⟨n + 1, hn⟩ h0) (ix2 r k)).trans ?_
      rw [added_at, zero_at, zero_add, h0]
      refine Finset.sum_congr rfl fun i _ => congrArg _ ?_
      omega
    · refine (congrFun (acc_next m c ⟨n + 1, hn⟩ h0) (ix2 r k)).trans ?_
      have hrow : at' ⟨n, Nat.lt_of_succ_lt hn⟩ r = at' ⟨n + 1, hn⟩ r :=
        Fin.ext (by show n / 16 * 1024 + r.val = (n + 1) / 16 * 1024 + r.val; omega)
      have hlen : 1024 * ((n + 1) % 16 + 1) = 1024 * (n % 16 + 1) + 1024 := by omega
      have hoff : 1024 * ((n + 1) % 16) = 1024 * (n % 16 + 1) := by omega
      rw [added_at, hlen, Finset.sum_range_add]
      refine congrArg₂ (· + ·) ?_ (Finset.sum_congr rfl fun i _ => ?_)
      · rw [← hrow]; exact ih (Nat.lt_of_succ_lt hn) r k
      · show term m c _ k (1024 * ((n + 1) % 16) + i) = _
        rw [hoff]

/-- After the last of its sixteen points: the sum over all experts. -/
theorem acc_whole (t : Fin cfg0.N) (h1 : t.val % 16 = 15) (r k : Fin 1024) :
    (outsAt0 m c t.val t.isLt).2 (ix2 r k) = ∑ e, expert (H m c) (PU m c) (PV m c) (WT m c) (at' t r) k e := by
  rw [acc_at, h1, show 1024 * (15 + 1) = 16384 from rfl, Finset.sum_range]
  exact Finset.sum_congr rfl fun e _ => by rw [term, dif_pos e.isLt]

theorem out_row (t : Fin cfg0.N) (h1 : t.val % 16 = 15) (r k : Fin 1024) :
    (outsAt0 m c t.val t.isLt).1 (ix2 r k)
      = outRow (H m c) (PU m c) (PV m c) (WT m c) (X1 m c) (GN m c) (at' t r) k := by
  rw [out_last m c t h1, out_at]
  simp only [acc_whole m c t h1, iblk_x1, iblk_gn]
  rfl

/-! ## The array -/

theorem arr_out : (dats m 0 c).arrAt 6 cfg0.N
    = val_main_v32 (F := Ideal) (H m c) (PU m c) (PV m c) (WT m c) (X1 m c) (GN m c) := by
  refine (dats m 0 c).arrAt_eq_of_cover 6 _ (fun t hf => ?_) (fun i => ?_)
  · funext y
    obtain ⟨r, k, rfl⟩ : ∃ (r : Fin 1024) (k : Fin 1024), y = ix2 r k := ⟨y 0, y 1, eq_ix2 y⟩
    show (outsAt0 m c t.val t.isLt).1 (ix2 r k) = val_main_v32 (F := Ideal) _ _ _ _ _ _ ((win0_6.rect t).emb (ix2 r k))
    rw [emb6, ref_out, out_row m c t ((flush0_6 t).mp hf)]
  · obtain ⟨R, k, rfl⟩ : ∃ (R : Fin 16384) (k : Fin 1024), i = ix2 R k := ⟨i 0, i 1, eq_ix2 i⟩
    obtain ⟨t, r, h1, rfl⟩ := at_row R
    refine ⟨t, (flush0_6 t).mpr h1, ?_⟩
    rw [← emb6]
    exact View.emb_mem_set ((cfg0.win 6).blk t).view (ix2 r k)

end Cert.Proof.Experts

end
-- ==== Proof.Experts.Claim.lean ====
/-
  The experts' value claim: over the reals extended by ±∞ the kernel and the reference end with the same result, and both
  leave their arguments as they were.
-/
module

public import proofs.«01_k».proof.Defs
public import proofs.«01_k».proof.Proof.Experts.Value
public import proofs.«01_k».proof.Proof.Gen.Reference4Ideal.Run

@[expose] public section

noncomputable section

namespace Cert.Proof.Experts

open Idealize.ShloMosaic Idealize.ShloMosaic.TcCoe Idealize.SL.Sem
open Cert.Reference4Ideal.Read

/-- The result is the reference's, in both programs. -/
theorem algebraic : Cert.algebraic_Kernel4Ideal_Reference4Ideal := by
  intro m g m' g' _ hargs
  refine ⟨fun c => val_main_v32 (F := Ideal) (H m c) (PU m c) (PV m c) (WT m c) (X1 m c) (GN m c), ?_, ?_⟩
  · refine (θ_run Cert.Kernel4Ideal.defs _ _).mono (fun r h c => ?_) (Cert.Kernel4Ideal.Value.run_blocks m g)
    obtain ⟨h0, hrest⟩ := h c
    exact ⟨h0.trans (arr_out m c), hrest⟩
  · refine (θ_run Cert.Reference4Ideal.defs _ _).mono (fun r h c => ?_) (Cert.Reference4Ideal.Value.run m' g')
    obtain ⟨h0, hrest⟩ := h c
    obtain ⟨a0, a1, a2, a3, a4, a5⟩ := hargs c
    exact ⟨h0.trans (by rw [val_main_v32_eq, a0, a1, a2, a3, a4, a5]), hrest⟩

end Cert.Proof.Experts

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.ReferenceIdeal.Run
public import proofs.«01_k».proof.Proof.Gen.ReferenceIdeal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Bits.Run
public import proofs.«01_k».proof.Proof.Attn.Run
public import proofs.«01_k».proof.Proof.Attn.Bound
public import proofs.«01_k».proof.Proof.Attn.Claim
public import proofs.«01_k».proof.Proof.InProj.Claim
public import proofs.«01_k».proof.Proof.Mixer.Claim
public import proofs.«01_k».proof.Proof.Experts.Claim
public import Idealize.ShloMosaic.Adequacy
public import Idealize.ShloMosaic.Init

@[expose] public section

noncomputable section

namespace Cert.Proof

open Idealize.ShloMosaic Idealize.SL.Sem Cert.Kernel

/-! ## The references' frames: each leaves its arguments as they were, and declares no semaphore. -/

theorem frame_Reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem frame_Reference2 : Cert.quiescent_Reference2Ideal := fun m g _ =>
  (θ_run Cert.Reference2Ideal.defs _ _).mono (fun r h => ⟨fun c => (h c).2.2.2.2.2, sem_eq_zero_of_no_sems (by decide) r.2⟩)
    (Cert.Reference2Ideal.Value.run m g)

theorem frame_Reference3 : Cert.quiescent_Reference3Ideal := fun m g _ =>
  (θ_run Cert.Reference3Ideal.defs _ _).mono (fun r h => ⟨fun c => (h c).2.2.2, sem_eq_zero_of_no_sems (by decide) r.2⟩)
    (Cert.Reference3Ideal.Value.run m g)

theorem frame_Reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Attn.finiteFacts,
  fun m g _ => AttnBits.frame m g,
  fun m g _ => Attn.frame m g,
  fun m g _ => Attn.frame m g,
  frame_Reference,
  fun m g _ => frame_Reference m g trivial,
  fun m g _ => Cert.Kernel2.Gen.frame m g,
  fun m g _ => Cert.Kernel2Ideal.Gen.frame m g,
  frame_Reference2,
  fun m g _ => Cert.Kernel3.Gen.frame m g,
  fun m g _ => Cert.Kernel3Ideal.Gen.frame m g,
  frame_Reference3,
  fun m g _ => Cert.Kernel4.Gen.frame m g,
  fun m g _ => Cert.Kernel4Ideal.Gen.frame m g,
  frame_Reference4,
  ⟨IdealRules.named_const.statement Cert.KernelIdeal.κ "neg_log2e" .f32 0xBFB8AA3B#32 _ rfl,
    IdealRules.named_const.statement Cert.KernelIdeal.κ "underflow" .f32 0x43160000#32 _ rfl⟩,
  Attn.algebraic,
  trivial,
  InProj.algebraic,
  trivial,
  Mixer.algebraic,
  trivial,
  Experts.algebraic⟩

end Cert.Proof

end
